-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v11)) (v4 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_v12) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v7_1) = v1 c
          ∧ r.2.mem ((c.tc : Thread Cert.ReferenceIdeal.nD Cert.ReferenceIdeal.τ).loc Cert.ReferenceIdeal.main_v7_2) = v2 c
          ∧ r.2.mem ((c.tc : Thread Cert.ReferenceIdeal.nD Cert.ReferenceIdeal.τ).loc Cert.ReferenceIdeal.main_v9) = v3 c
          ∧ r.2.mem ((c.tc : Thread Cert.ReferenceIdeal.nD Cert.ReferenceIdeal.τ).loc Cert.ReferenceIdeal.main_v10) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x1024x2560 : Shape := ⟨3, ![8, 1024, 2560]⟩
abbrev S8x1024 : Shape := ⟨2, ![8, 1024]⟩
abbrev S8x1024x10240 : Shape := ⟨3, ![8, 1024, 10240]⟩
abbrev S2560x10240 : Shape := ⟨2, ![2560, 10240]⟩
abbrev S2560 : Shape := ⟨1, ![2560]⟩
abbrev S2560x96 : Shape := ⟨2, ![2560, 96]⟩
abbrev S96x10240 : Shape := ⟨2, ![96, 10240]⟩
abbrev S_ : Shape := ⟨0, ![]⟩

class Facts : Prop where
  natLt_8_32 : 8 < 32
  bcast_S_S8x1024x2560 : S_.BroadcastsInDim S8x1024x2560 (![] : Fin 0 → Fin S8x1024x2560.rank)
  reducesTo_S8x1024x2560_S_d0_1_2 : S8x1024x2560.ReducesTo [0, 1, 2] S_
  h_S_ : 0 < S_.numel
  bcast_S_S8x1024x10240 : S_.BroadcastsInDim S8x1024x10240 (![] : Fin 0 → Fin S8x1024x10240.rank)
  reducesTo_S8x1024x10240_S_d0_1_2 : S8x1024x10240.ReducesTo [0, 1, 2] S_
  bcast_S_S8x1024 : S_.BroadcastsInDim S8x1024 (![] : Fin 0 → Fin S8x1024.rank)
  reducesTo_S8x1024_S_d0_1 : S8x1024.ReducesTo [0, 1] S_
  bcast_S_S2560x96 : S_.BroadcastsInDim S2560x96 (![] : Fin 0 → Fin S2560x96.rank)
  reducesTo_S2560x96_S_d0_1 : S2560x96.ReducesTo [0, 1] S_
  bcast_S_S96x10240 : S_.BroadcastsInDim S96x10240 (![] : Fin 0 → Fin S96x10240.rank)
  reducesTo_S96x10240_S_d0_1 : S96x10240.ReducesTo [0, 1] S_

variable [Facts]

def fn_part1 {F : FTy → Type} [FloatOps F] (main_arg3 : FVec F S8x1024 .f32) (main_arg6 : FVec F S2560x96 .bf16) (main_arg7 : FVec F S96x10240 .bf16) (main_v12 : IVec S_ 1) (main_v15 : IVec S8x1024 1) (main_c_5 : IVec S_ 1) : IVec S_ 1 :=
  let main_v16 : IVec S_ 1 := (fun x v => Host.reduce IntOp.andi x v reducesTo_S8x1024_S_d0_1 h_S_) main_v15 main_c_5
  let main_v17 : IVec S_ 1 := andi main_v12 main_v16
  let main_v18 : FVec F S8x1024 .f32 := Host.absf main_arg3
  let main_cst_6 : FVec F S_ .f32 := constant S_ .f32 0x7F800000#32
  let main_v19 : FVec F S8x1024 .f32 := broadcastInDim S8x1024 ![] bcast_S_S8x1024 main_cst_6
  let main_v20 : IVec S8x1024 1 := cmpf .olt main_v18 main_v19
  let main_c_7 : IVec S_ 1 := constantI S_ 1 1#1
  let main_v21 : IVec S_ 1 := (fun x v => Host.reduce IntOp.andi x v reducesTo_S8x1024_S_d0_1 h_S_) main_v20 main_c_7
  let main_v22 : IVec S_ 1 := andi main_v17 main_v21
  let main_v23 : FVec F S2560x96 .bf16 := Host.absf main_arg6
  let main_cst_8 : FVec F S_ .bf16 := constant S_ .bf16 0x7F80#16
  let main_v24 : FVec F S2560x96 .bf16 := broadcastInDim S2560x96 ![] bcast_S_S2560x96 main_cst_8
  let main_v25 : IVec S2560x96 1 := cmpf .olt main_v23 main_v24
  let main_c_9 : IVec S_ 1 := constantI S_ 1 1#1
  let main_v26 : IVec S_ 1 := (fun x v => Host.reduce IntOp.andi x v reducesTo_S2560x96_S_d0_1 h_S_) main_v25 main_c_9
  let main_v27 : IVec S_ 1 := andi main_v22 main_v26
  let main_v28 : FVec F S96x10240 .bf16 := Host.absf main_arg7
  let main_cst_10 : FVec F S_ .bf16 := constant S_ .bf16 0x7F80#16
  let main_v29 : FVec F S96x10240 .bf16 := broadcastInDim S96x10240 ![] bcast_S_S96x10240 main_cst_10
  let main_v30 : IVec S96x10240 1 := cmpf .olt main_v28 main_v29
  let main_c_11 : IVec S_ 1 := constantI S_ 1 1#1
  let main_v31 : IVec S_ 1 := (fun x v => Host.reduce IntOp.andi x v reducesTo_S96x10240_S_d0_1 h_S_) main_v30 main_c_11
  let main_v32 : IVec S_ 1 := andi main_v27 main_v31
  main_v32

def fn {F : FTy → Type} [FloatOps F] (main_arg0 : IVec S8x1024x2560 8) (main_arg1 : FVec F S8x1024 .f32) (main_arg2 : IVec S8x1024x10240 8) (main_arg3 : FVec F S8x1024 .f32) (main_arg4 : FVec F S2560x10240 .fp8e4m3) (main_arg5 : FVec F S2560 .f32) (main_arg6 : FVec F S2560x96 .bf16) (main_arg7 : FVec F S96x10240 .bf16) : IVec S_ 1 :=
  let main_v0 : IVec S8x1024x2560 32 := (extui 32 · natLt_8_32) main_arg0
  let main_c : IVec S_ 32 := constantI S_ 32 127#32
  let main_v1 : IVec S8x1024x2560 32 := broadcastInDim S8x1024x2560 ![] bcast_S_S8x1024x2560 main_c
  let main_v2 : IVec S8x1024x2560 32 := andi main_v0 main_v1
  let main_c_0 : IVec S_ 32 := constantI S_ 32 127#32
  let main_v3 : IVec S8x1024x2560 32 := broadcastInDim S8x1024x2560 ![] bcast_S_S8x1024x2560 main_c_0
  let main_v4 : IVec S8x1024x2560 1 := cmpi .ne main_v2 main_v3
  let main_c_1 : IVec S_ 1 := constantI S_ 1 1#1
  let main_v5 : IVec S_ 1 := (fun x v => Host.reduce IntOp.andi x v reducesTo_S8x1024x2560_S_d0_1_2 h_S_) main_v4 main_c_1
  let main_v6 : IVec S8x1024x10240 32 := (extui 32 · natLt_8_32) main_arg2
  let main_c_2 : IVec S_ 32 := constantI S_ 32 124#32
  let main_v7 : IVec S8x1024x10240 32 := broadcastInDim S8x1024x10240 ![] bcast_S_S8x1024x10240 main_c_2
  let main_v8 : IVec S8x1024x10240 32 := andi main_v6 main_v7
  let main_c_3 : IVec S_ 32 := constantI S_ 32 124#32
  let main_v9 : IVec S8x1024x10240 32 := broadcastInDim S8x1024x10240 ![] bcast_S_S8x1024x10240 main_c_3
  let main_v10 : IVec S8x1024x10240 1 := cmpi .ne main_v8 main_v9
  let main_c_4 : IVec S_ 1 := constantI S_ 1 1#1
  let main_v11 : IVec S_ 1 := (fun x v => Host.reduce IntOp.andi x v reducesTo_S8x1024x10240_S_d0_1_2 h_S_) main_v10 main_c_4
  let main_v12 : IVec S_ 1 := andi main_v5 main_v11
  let main_v13 : FVec F S8x1024 .f32 := Host.absf main_arg1
  let main_cst : FVec F S_ .f32 := constant S_ .f32 0x7F800000#32
  let main_v14 : FVec F S8x1024 .f32 := broadcastInDim S8x1024 ![] bcast_S_S8x1024 main_cst
  let main_v15 : IVec S8x1024 1 := cmpf .olt main_v13 main_v14
  let main_c_5 : IVec S_ 1 := constantI S_ 1 1#1
  fn_part1 (F := F) main_arg3 main_arg6 main_arg7 main_v12 main_v15 main_c_5
-- ==== Kernel.lean ====
abbrev S8x1024x2560 : Shape := ⟨3, ![8, 1024, 2560]⟩
abbrev S8x1024 : Shape := ⟨2, ![8, 1024]⟩
abbrev S8x1024x10240 : Shape := ⟨3, ![8, 1024, 10240]⟩
abbrev S2560x10240 : Shape := ⟨2, ![2560, 10240]⟩
abbrev S2560 : Shape := ⟨1, ![2560]⟩
abbrev S2560x96 : Shape := ⟨2, ![2560, 96]⟩
abbrev S96x10240 : Shape := ⟨2, ![96, 10240]⟩
abbrev S8192x2560 : Shape := ⟨2, ![8192, 2560]⟩
abbrev S16x1x512 : Shape := ⟨3, ![16, 1, 512]⟩
abbrev S8192x10240 : Shape := ⟨2, ![8192, 10240]⟩
abbrev S1x2560 : Shape := ⟨2, ![1, 2560]⟩
abbrev S96x2560 : Shape := ⟨2, ![96, 2560]⟩
abbrev S8x96x1024 : Shape := ⟨3, ![8, 96, 1024]⟩
abbrev S512x2560 : Shape := ⟨2, ![512, 2560]⟩
abbrev S1x1x512 : Shape := ⟨3, ![1, 1, 512]⟩
abbrev S512x10240 : Shape := ⟨2, ![512, 10240]⟩
abbrev S1x96x512 : Shape := ⟨3, ![1, 96, 512]⟩
abbrev S288x2560 : Shape := ⟨2, ![288, 2560]⟩
abbrev S512x128 : Shape := ⟨2, ![512, 128]⟩
abbrev S512x288 : Shape := ⟨2, ![512, 288]⟩
abbrev S288x512 : Shape := ⟨2, ![288, 512]⟩
abbrev S1x512 : Shape := ⟨2, ![1, 512]⟩
abbrev S128x512 : Shape := ⟨2, ![128, 512]⟩
abbrev S96x512 : Shape := ⟨2, ![96, 512]⟩
abbrev S512x512 : Shape := ⟨2, ![512, 512]⟩
abbrev S8x1024x96 : Shape := ⟨3, ![8, 1024, 96]⟩

abbrev nBuf : Space → Nat
  | .hbm => 25
  | .vmem => 25
  | .smem => 0
  | _ => 0

abbrev bufTy : (tb : Table) → Fin (tcTables nBuf tb) → BufTy
  | .hbm, ⟨0, _⟩ => ⟨S8x1024x2560, .i8⟩
  | .hbm, ⟨1, _⟩ => ⟨S8x1024, .f32⟩
  | .hbm, ⟨2, _⟩ => ⟨S8x1024x10240, .i8⟩
  | .hbm, ⟨3, _⟩ => ⟨S8x1024, .f32⟩
  | .hbm, ⟨4, _⟩ => ⟨S2560x10240, .fp8e4m3⟩
  | .hbm, ⟨5, _⟩ => ⟨S2560, .f32⟩
  | .hbm, ⟨6, _⟩ => ⟨S2560x96, .bf16⟩
  | .hbm, ⟨7, _⟩ => ⟨S96x10240, .bf16⟩
  | .hbm, ⟨8, _⟩ => ⟨S8x1024x2560, .fp8e4m3⟩
  | .hbm, ⟨9, _⟩ => ⟨S8x1024x10240, .fp8e5m2⟩
  | .hbm, ⟨10, _⟩ => ⟨S8192x2560, .fp8e4m3⟩
  | .hbm, ⟨11, _⟩ => ⟨S16x1x512, .f32⟩
  | .hbm, ⟨12, _⟩ => ⟨S8192x10240, .fp8e5m2⟩
  | .hbm, ⟨13, _⟩ => ⟨S16x1x512, .f32⟩
  | .hbm, ⟨14, _⟩ => ⟨S1x2560, .f32⟩
  | .hbm, ⟨15, _⟩ => ⟨S96x2560, .bf16⟩
  | .hbm, ⟨16, _⟩ => ⟨S8192x2560, .bf16⟩
  | .hbm, ⟨17, _⟩ => ⟨S96x2560, .f32⟩
  | .hbm, ⟨18, _⟩ => ⟨S96x10240, .f32⟩
  | .hbm, ⟨19, _⟩ => ⟨S8x96x1024, .f32⟩
  | .hbm, ⟨20, _⟩ => ⟨S8x96x1024, .f32⟩
  | .hbm, ⟨21, _⟩ => ⟨S8x1024x2560, .bf16⟩
  | .hbm, ⟨22, _⟩ => ⟨S2560x96, .f32⟩
  | .hbm, ⟨23, _⟩ => ⟨S8x1024x96, .f32⟩
  | .hbm, ⟨24, _⟩ => ⟨S8x1024x96, .f32⟩
  | .local _ .vmem, ⟨0, _⟩ => ⟨S512x2560, .fp8e4m3⟩
  | .local _ .vmem, ⟨1, _⟩ => ⟨S512x2560, .fp8e4m3⟩
  | .local _ .vmem, ⟨2, _⟩ => ⟨S1x1x512, .f32⟩
  | .local _ .vmem, ⟨3, _⟩ => ⟨S1x1x512, .f32⟩
  | .local _ .vmem, ⟨4, _⟩ => ⟨S512x10240, .fp8e5m2⟩
  | .local _ .vmem, ⟨5, _⟩ => ⟨S512x10240, .fp8e5m2⟩
  | .local _ .vmem, ⟨6, _⟩ => ⟨S1x1x512, .f32⟩
  | .local _ .vmem, ⟨7, _⟩ => ⟨S1x1x512, .f32⟩
  | .local _ .vmem, ⟨8, _⟩ => ⟨S2560x10240, .fp8e4m3⟩
  | .local _ .vmem, ⟨9, _⟩ => ⟨S1x2560, .f32⟩
  | .local _ .vmem, ⟨10, _⟩ => ⟨S96x2560, .bf16⟩
  | .local _ .vmem, ⟨11, _⟩ => ⟨S96x10240, .bf16⟩
  | .local _ .vmem, ⟨12, _⟩ => ⟨S512x2560, .bf16⟩
  | .local _ .vmem, ⟨13, _⟩ => ⟨S512x2560, .bf16⟩
  | .local _ .vmem, ⟨14, _⟩ => ⟨S96x2560, .f32⟩
  | .local _ .vmem, ⟨15, _⟩ => ⟨S96x10240, .f32⟩
  | .local _ .vmem, ⟨16, _⟩ => ⟨S1x96x512, .f32⟩
  | .local _ .vmem, ⟨17, _⟩ => ⟨S1x96x512, .f32⟩
  | .local _ .vmem, ⟨18, _⟩ => ⟨S1x96x512, .f32⟩
  | .local _ .vmem, ⟨19, _⟩ => ⟨S1x96x512, .f32⟩
  | .local _ .vmem, ⟨20, _⟩ => ⟨S288x2560, .bf16⟩
  | .local _ .vmem, ⟨21, _⟩ => ⟨S512x128, .f32⟩
  | .local _ .vmem, ⟨22, _⟩ => ⟨S512x288, .bf16⟩
  | .local _ .vmem, ⟨23, _⟩ => ⟨S288x512, .bf16⟩
  | .local _ .vmem, ⟨24, _⟩ => ⟨S288x512, .bf16⟩
  | _, _ => ⟨S8x1024x2560, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_12 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x2560 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x10240 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2560x10240 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S96x2560 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S96x10240 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2560 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S96x2560 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S96x10240 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x96x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x96x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S8x1024x2560 : Shape := ⟨3, ![8, 1024, 2560]⟩
abbrev S8x1024 : Shape := ⟨2, ![8, 1024]⟩
abbrev S8x1024x10240 : Shape := ⟨3, ![8, 1024, 10240]⟩
abbrev S2560x10240 : Shape := ⟨2, ![2560, 10240]⟩
abbrev S2560 : Shape := ⟨1, ![2560]⟩
abbrev S2560x96 : Shape := ⟨2, ![2560, 96]⟩
abbrev S96x10240 : Shape := ⟨2, ![96, 10240]⟩
abbrev S8192x2560 : Shape := ⟨2, ![8192, 2560]⟩
abbrev S8192x1 : Shape := ⟨2, ![8192, 1]⟩
abbrev S8192x10240 : Shape := ⟨2, ![8192, 10240]⟩
abbrev S1x2560 : Shape := ⟨2, ![1, 2560]⟩
abbrev S8192x96 : Shape := ⟨2, ![8192, 96]⟩
abbrev S8x1024x96 : Shape := ⟨3, ![8, 1024, 96]⟩

abbrev nBuf : Space → Nat
  | .hbm => 23
  | .vmem => 13
  | .smem => 0
  | _ => 0

abbrev bufTy : (tb : Table) → Fin (tcTables nBuf tb) → BufTy
  | .hbm, ⟨0, _⟩ => ⟨S8x1024x2560, .i8⟩
  | .hbm, ⟨1, _⟩ => ⟨S8x1024, .f32⟩
  | .hbm, ⟨2, _⟩ => ⟨S8x1024x10240, .i8⟩
  | .hbm, ⟨3, _⟩ => ⟨S8x1024, .f32⟩
  | .hbm, ⟨4, _⟩ => ⟨S2560x10240, .fp8e4m3⟩
  | .hbm, ⟨5, _⟩ => ⟨S2560, .f32⟩
  | .hbm, ⟨6, _⟩ => ⟨S2560x96, .bf16⟩
  | .hbm, ⟨7, _⟩ => ⟨S96x10240, .bf16⟩
  | .hbm, ⟨8, _⟩ => ⟨S8x1024x2560, .fp8e4m3⟩
  | .hbm, ⟨9, _⟩ => ⟨S8x1024x10240, .fp8e5m2⟩
  | .hbm, ⟨10, _⟩ => ⟨S8192x2560, .fp8e4m3⟩
  | .hbm, ⟨11, _⟩ => ⟨S8192x1, .f32⟩
  | .hbm, ⟨12, _⟩ => ⟨S8192x10240, .fp8e5m2⟩
  | .hbm, ⟨13, _⟩ => ⟨S8192x1, .f32⟩
  | .hbm, ⟨14, _⟩ => ⟨S1x2560, .f32⟩
  | .hbm, ⟨15, _⟩ => ⟨S8192x2560, .bf16⟩
  | .hbm, ⟨16, _⟩ => ⟨S2560x96, .f32⟩
  | .hbm, ⟨17, _⟩ => ⟨S96x10240, .f32⟩
  | .hbm, ⟨18, _⟩ => ⟨S8192x96, .f32⟩
  | .hbm, ⟨19, _⟩ => ⟨S8192x96, .f32⟩
  | .hbm, ⟨20, _⟩ => ⟨S8x1024x2560, .bf16⟩
  | .hbm, ⟨21, _⟩ => ⟨S8x1024x96, .f32⟩
  | .hbm, ⟨22, _⟩ => ⟨S8x1024x96, .f32⟩
  | .local _ .vmem, ⟨0, _⟩ => ⟨S8192x2560, .fp8e4m3⟩
  | .local _ .vmem, ⟨1, _⟩ => ⟨S8192x1, .f32⟩
  | .local _ .vmem, ⟨2, _⟩ => ⟨S8192x10240, .fp8e5m2⟩
  | .local _ .vmem, ⟨3, _⟩ => ⟨S8192x1, .f32⟩
  | .local _ .vmem, ⟨4, _⟩ => ⟨S2560x10240, .fp8e4m3⟩
  | .local _ .vmem, ⟨5, _⟩ => ⟨S1x2560, .f32⟩
  | .local _ .vmem, ⟨6, _⟩ => ⟨S2560x96, .bf16⟩
  | .local _ .vmem, ⟨7, _⟩ => ⟨S96x10240, .bf16⟩
  | .local _ .vmem, ⟨8, _⟩ => ⟨S8192x2560, .bf16⟩
  | .local _ .vmem, ⟨9, _⟩ => ⟨S2560x96, .f32⟩
  | .local _ .vmem, ⟨10, _⟩ => ⟨S96x10240, .f32⟩
  | .local _ .vmem, ⟨11, _⟩ => ⟨S8192x96, .f32⟩
  | .local _ .vmem, ⟨12, _⟩ => ⟨S8192x96, .f32⟩
  | _, _ => ⟨S8x1024x2560, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S8192x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x10240 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2560x10240 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2560x96 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S96x10240 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x2560 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2560x96 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S96x10240 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8192x96 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8192x96 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Reals.lean ====
/-
  Extended reals that are numbers: closed under sums and products, and a number times a finite sum of numbers is
  the sum of the products. The extended reals are no ring, so this is what the distributive law is read from.
-/
module

public import Idealize.ShloMosaic.PureOps.Ideal

@[expose] public section

noncomputable section

namespace Cert.Reals

open Idealize.ShloMosaic

/-- The extended real is a number: neither infinity. -/
def IsReal (x : EReal) : Prop := ∃ r : ℝ, x = (r : EReal)

theorem isReal_coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem isReal_sum {ι : Type*} (s : Finset ι) (f : ι → EReal) (hf : ∀ i, IsReal (f i)) : IsReal (∑ i ∈ s, f i) := by
  classical
  induction s using Finset.induction_on with
  | empty => simpa using isReal_zero
  | insert a s ha ih => rw [Finset.sum_insert ha]; exact (hf a).add ih

/-- A number less itself is zero (an infinity less itself is not). -/
theorem IsReal.sub_self {x : EReal} (hx : IsReal x) : x - x = 0 := by
  obtain ⟨a, rfl⟩ := hx
  rw [← EReal.coe_sub, _root_.sub_self]; rfl

/-- The sum of numbers is the number that is their sum. -/
theorem coe_sum {ι : Type*} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A number distributes over a finite sum of numbers. -/
theorem IsReal.mul_sum {ι : Type*} (s : Finset ι) {c : EReal} (hc : IsReal c) (f : ι → EReal)
    (hf : ∀ i, IsReal (f i)) : c * ∑ i ∈ s, f i = ∑ i ∈ s, c * f i := by
  obtain ⟨a, rfl⟩ := hc
  choose g hg using hf
  simp only [hg, ← EReal.coe_mul, ← coe_sum, Finset.mul_sum]

/-- An extended real whose absolute value is below infinity is a number. -/
theorem isReal_of_ne {x : EReal} (ht : x ≠ ⊤) (hb : x ≠ ⊥) : IsReal x :=
  ⟨x.toReal, (EReal.coe_toReal ht hb).symm⟩

/-- The pattern of 2.0. -/
theorem isReal_two : IsReal (Ideal.ofBits .f32 0x40000000#32) := by
  have h : ¬(((0x40000000#32 : BitVec 32).extractLsb' 23 8).toNat = 2 ^ 8 - 1) := by decide
  have h' : ¬(((0x40000000#32 : BitVec 32).extractLsb' 23 8).toNat = 0) := by decide
  show IsReal (Ideal.ieee 8 23 0x40000000#32)
  unfold Ideal.ieee
  dsimp only
  rw [if_neg h, if_neg h']
  exact isReal_coe _

end Cert.Reals

end
-- ==== Proof.Spec.lean ====
/-
  What both programs compute over the extended reals, as sums over the arguments' elements. The tokens of the batch and
  of the sequence are numbered in one row, T = 1024 b + s.
-/
module

public import proofs.«01_k».proof.Proof.Reals
public import Idealize.ShloMosaic.Lib.Pointwise

@[expose] public section

set_option maxRecDepth 16384

noncomputable section

namespace Cert.Spec

open Idealize.ShloMosaic Cert.Reals

/-- The arguments' elements: x and dy by token, their scales, the base weight and its row scales, LoRA's A and B. -/
structure Args where
  x : Fin 8192 → Fin 2560 → EReal
  xs : Fin 8192 → EReal
  dy : Fin 8192 → Fin 10240 → EReal
  dys : Fin 8192 → EReal
  w : Fin 2560 → Fin 10240 → EReal
  ws : Fin 2560 → EReal
  la : Fin 2560 → Fin 96 → EReal
  lb : Fin 96 → Fin 10240 → EReal

/-- The batch of a token. -/
abbrev bat (T : Fin 8192) : Fin 8 := ⟨T.val / 1024, by omega⟩
/-- The place of a token in its sequence. -/
abbrev pos (T : Fin 8192) : Fin 1024 := ⟨T.val % 1024, by omega⟩
/-- The token at a place of a batch. -/
abbrev token (b : Fin 8) (s : Fin 1024) : Fin 8192 := ⟨b.val * 1024 + s.val, by omega⟩

/-- The arguments' elements out of the arrays: x and dy are read off the words of their fp8 values. -/
def Args.of (a0 : IVec ⟨3, ![8, 1024, 2560]⟩ 8) (a1 : FVec Ideal ⟨2, ![8, 1024]⟩ .f32)
    (a2 : IVec ⟨3, ![8, 1024, 10240]⟩ 8) (a3 : FVec Ideal ⟨2, ![8, 1024]⟩ .f32)
    (a4 : FVec Ideal ⟨2, ![2560, 10240]⟩ .fp8e4m3) (a5 : FVec Ideal ⟨1, ![2560]⟩ .f32)
    (a6 : FVec Ideal ⟨2, ![2560, 96]⟩ .bf16) (a7 : FVec Ideal ⟨2, ![96, 10240]⟩ .bf16) : Args where
  x T k := Ideal.ofBits .fp8e4m3 (a0 (ix3 (bat T) (pos T) k))
  xs T := a1 (ix2 (bat T) (pos T))
  dy T k := Ideal.ofBits .fp8e5m2 (a2 (ix3 (bat T) (pos T) k))
  dys T := a3 (ix2 (bat T) (pos T))
  w n k := a4 (ix2 n k)
  ws n := a5 (ix1 n)
  la n r := a6 (ix2 n r)
  lb r k := a7 (ix2 r k)

/-- x's fp8 words read as numbers and the tokens laid in one row, at an element. -/
theorem x_at (w : IVec ⟨3, ![8, 1024, 2560]⟩ 8) (h) (T : Fin 8192) (k : Fin 2560) :
    shapeCast ⟨2, ![8192, 2560]⟩ (bitcastToFloat (F := Ideal) .fp8e4m3 w) h (ix2 T k)
      = Ideal.ofBits .fp8e4m3 (w (ix3 (bat T) (pos T) k)) := by
  generalize hf : bitcastToFloat (F := Ideal) .fp8e4m3 w = f
  pointwise
  rw [← hf]
  rfl

/-- dy's fp8 words read as numbers and the tokens laid in one row, at an element. -/
theorem dy_at (w : IVec ⟨3, ![8, 1024, 10240]⟩ 8) (h) (T : Fin 8192) (k : Fin 10240) :
    shapeCast ⟨2, ![8192, 10240]⟩ (bitcastToFloat (F := Ideal) .fp8e5m2 w) h (ix2 T k)
      = Ideal.ofBits .fp8e5m2 (w (ix3 (bat T) (pos T) k)) := by
  generalize hf : bitcastToFloat (F := Ideal) .fp8e5m2 w = f
  pointwise
  rw [← hf]
  rfl

variable (A : Args)

/-- The constant 2.0, the LoRA scale. -/
def two : EReal := Ideal.ofBits .f32 0x40000000#32

theorem isReal_two' : IsReal two := isReal_two

/-- t = dy·Bᵀ, dequantized. -/
def Args.t (T : Fin 8192) (r : Fin 96) : EReal := (∑ k : Fin 10240, A.lb r k * A.dy T k) * A.dys T

/-- xa = x·A, dequantized. -/
def Args.xa (T : Fin 8192) (r : Fin 96) : EReal := (∑ k : Fin 2560, A.la k r * A.x T k) * A.xs T

/-- dx: the base weight's part and LoRA's. -/
def Args.dx (T : Fin 8192) (n : Fin 2560) : EReal :=
  (∑ k : Fin 10240, A.dy T k * A.w n k) * (A.dys T * A.ws n) + two * ∑ p : Fin 96, A.t T p * A.la n p

/-- dA, the scale inside the sum over the tokens. -/
def Args.da (n : Fin 2560) (r : Fin 96) : EReal := ∑ T : Fin 8192, A.t T r * A.xs T * two * A.x T n

/-- dB, the scale inside the sum over the tokens. -/
def Args.db (r : Fin 96) (k : Fin 10240) : EReal := ∑ T : Fin 8192, A.xa T r * A.dys T * two * A.dy T k

/-- Every argument but the base weight and its scales is a number. -/
structure Args.Finite : Prop where
  x : ∀ T k, IsReal (A.x T k)
  xs : ∀ T, IsReal (A.xs T)
  dy : ∀ T k, IsReal (A.dy T k)
  dys : ∀ T, IsReal (A.dys T)
  la : ∀ n r, IsReal (A.la n r)
  lb : ∀ r k, IsReal (A.lb r k)

variable {A}

theorem Args.Finite.t (h : A.Finite) (T : Fin 8192) (r : Fin 96) : IsReal (A.t T r) :=
  (isReal_sum _ _ fun k => (h.lb r k).mul (h.dy T k)).mul (h.dys T)

theorem Args.Finite.xa (h : A.Finite) (T : Fin 8192) (r : Fin 96) : IsReal (A.xa T r) :=
  (isReal_sum _ _ fun k => (h.la k r).mul (h.x T k)).mul (h.xs T)

/-- dA with the scale outside the sum. -/
theorem Args.Finite.da_eq (h : A.Finite) (n : Fin 2560) (r : Fin 96) :
    A.da n r = two * ∑ T : Fin 8192, A.x T n * (A.xs T * A.t T r) := by
  rw [isReal_two'.mul_sum _ _ fun T => (h.x T n).mul ((h.xs T).mul (h.t T r))]
  refine Finset.sum_congr rfl fun T _ => ?_
  generalize two = d, A.x T n = x, A.xs T = y, A.t T r = z
  ac_rfl

/-- dB with the scale outside the sum. -/
theorem Args.Finite.db_eq (h : A.Finite) (r : Fin 96) (k : Fin 10240) :
    A.db r k = two * ∑ T : Fin 8192, A.xa T r * A.dys T * A.dy T k := by
  rw [isReal_two'.mul_sum _ _ fun T => ((h.xa T r).mul (h.dys T)).mul (h.dy T k)]
  refine Finset.sum_congr rfl fun T _ => ?_
  generalize two = d, A.xa T r = x, A.dys T = y, A.dy T k = z
  ac_rfl

end Cert.Spec

end
-- ==== Proof.KernelReads.lean ====
/-
  What the kernel's region reads: the blocks of its input windows at a grid point, as elements of the arguments. Point t
  holds tokens 512·t, …, 512·t + 511.
-/
module

public import proofs.«01_k».proof.Proof.Spec
public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.KernelIdeal.Value

open Idealize.ShloMosaic Idealize.ShloMosaic.TcCoe Idealize.SL.Sem
open Cert.KernelIdeal Cert.KernelIdeal.Gen Cert.KernelIdeal.Facts Cert.Spec

variable (m : (ℓ : Loc nD τ sig) → Buf (Elt Ideal) ℓ)

/-- The arguments' elements. -/
def args (c : Dev nD) : Args :=
  Args.of (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))

/-- Token `s` of grid point `t`. -/
def tok (t : Fin cfg0.N) (s : Fin 512) : Fin 8192 :=
  ⟨512 * t.val + s.val, by have h := lt_of_lt_of_eq t.isLt N_0; have h' := s.isLt; omega⟩

theorem idx (t : Fin cfg0.N) : win0_0.index t = ![t.val, 0] ∧ win0_1.index t = ![t.val, 0, 0]
    ∧ win0_2.index t = ![t.val, 0] ∧ win0_3.index t = ![t.val, 0, 0] ∧ win0_4.index t = ![0, 0]
    ∧ win0_5.index t = ![0, 0] ∧ win0_6.index t = ![0, 0] ∧ win0_7.index t = ![0, 0] := by
  revert t; decide +kernel

theorem outIdx (t : Fin cfg0.N) : win0_8.index t = ![t.val, 0] ∧ win0_9.index t = ![0, 0]
    ∧ win0_10.index t = ![0, 0] ∧ win0_11.index t = ![t.val / 2, 0, t.val % 2]
    ∧ win0_12.index t = ![t.val / 2, 0, t.val % 2] := by
  revert t; decide +kernel

/-- The point as an index of an axis of extent 16. -/
def pt (t : Fin cfg0.N) : Fin 16 := ⟨t.val, lt_of_lt_of_eq t.isLt N_0⟩

theorem V_x (c : Dev nD) : V m c main_v2 = shapeCast S8192x2560 (bitcastToFloat (F := Ideal) .fp8e4m3 (m ((c : Thread nD τ).loc main_arg0))) shapeCasts_S8x1024x2560_S8192x2560 := by
  show StableHlo.after hostOps0 (fun b => m (c, b)) (Proc.devRef .tc main_v2) = _
  unfold hostOps0
  after_results
  rfl

theorem V_xs (c : Dev nD) : V m c main_v3 = shapeCast S16x1x512 (α := EReal) (m ((c : Thread nD τ).loc main_arg1)) shapeCasts_S8x1024_S16x1x512 := by
  show StableHlo.after hostOps0 (fun b => m (c, b)) (Proc.devRef .tc main_v3) = _
  unfold hostOps0
  after_results
  rfl

theorem V_dy (c : Dev nD) : V m c main_v4 = shapeCast S8192x10240 (bitcastToFloat (F := Ideal) .fp8e5m2 (m ((c : Thread nD τ).loc main_arg2))) shapeCasts_S8x1024x10240_S8192x10240 := by
  show StableHlo.after hostOps0 (fun b => m (c, b)) (Proc.devRef .tc main_v4) = _
  unfold hostOps0
  after_results
  rfl

theorem V_dys (c : Dev nD) : V m c main_v5 = shapeCast S16x1x512 (α := EReal) (m ((c : Thread nD τ).loc main_arg3)) shapeCasts_S8x1024_S16x1x512 := by
  show StableHlo.after hostOps0 (fun b => m (c, b)) (Proc.devRef .tc main_v5) = _
  unfold hostOps0
  after_results
  rfl

theorem V_ws (c : Dev nD) : V m c main_v6 = shapeCast S1x2560 (α := EReal) (m ((c : Thread nD τ).loc main_arg5)) shapeCasts_S2560_S1x2560 := by
  show StableHlo.after hostOps0 (fun b => m (c, b)) (Proc.devRef .tc main_v6) = _
  unfold hostOps0
  after_results
  rfl

theorem V_la (c : Dev nD) : V m c main_v7 = transpose S96x2560 [1, 0] (α := EReal) (m ((c : Thread nD τ).loc main_arg6)) transposes_S2560x96_S96x2560_1_0 := by
  show StableHlo.after hostOps0 (fun b => m (c, b)) (Proc.devRef .tc main_v7) = _
  unfold hostOps0
  after_results

theorem scale_at (f : S8x1024.Idx → EReal) (h : S8x1024.ShapeCasts S16x1x512) (t : Fin cfg0.N) (s : Fin 512) :
    shapeCast S16x1x512 f h (ix3 (pt t) 0 s) = f (ix2 (bat (tok t s)) (pos (tok t s))) := by
  pointwise
  congr 2 <;> exact Fin.ext (by simp only [pt, tok]; omega)

theorem read_x (c : Dev nD) (t : Fin cfg0.N) (s : Fin 512) (k : Fin 2560) :
    iblk m c 0 t (ix2 s k) = (args m c).x (tok t s) k := by
  have h0 : ((cfg0.win 0).blk t).view.emb (ix2 s k) = ix2 (tok t s) k := by
    blk_ext [(idx t).1]
    simp only [tok]; omega
  show V m c main_v2 (((cfg0.win 0).blk t).view.emb (ix2 s k)) = _
  rw [h0, V_x]; exact x_at _ _ _ k

theorem read_xs (c : Dev nD) (t : Fin cfg0.N) (s : Fin 512) :
    iblk m c 1 t (ix3 0 0 s) = (args m c).xs (tok t s) := by
  have h0 : ((cfg0.win 1).blk t).view.emb (ix3 0 0 s) = ix3 (pt t) 0 s := by
    blk_ext [(idx t).2.1]
    simp only [pt]; omega
  show V m c main_v3 (((cfg0.win 1).blk t).view.emb (ix3 0 0 s)) = _
  rw [h0, V_xs]
  exact scale_at _ _ t s

theorem read_dy (c : Dev nD) (t : Fin cfg0.N) (s : Fin 512) (k : Fin 10240) :
    iblk m c 2 t (ix2 s k) = (args m c).dy (tok t s) k := by
  have h0 : ((cfg0.win 2).blk t).view.emb (ix2 s k) = ix2 (tok t s) k := by
    blk_ext [(idx t).2.2.1]
    simp only [tok]; omega
  show V m c main_v4 (((cfg0.win 2).blk t).view.emb (ix2 s k)) = _
  rw [h0, V_dy]; exact dy_at _ _ _ k

theorem read_dys (c : Dev nD) (t : Fin cfg0.N) (s : Fin 512) :
    iblk m c 3 t (ix3 0 0 s) = (args m c).dys (tok t s) := by
  have h0 : ((cfg0.win 3).blk t).view.emb (ix3 0 0 s) = ix3 (pt t) 0 s := by
    blk_ext [(idx t).2.2.2.1]
    simp only [pt]; omega
  show V m c main_v5 (((cfg0.win 3).blk t).view.emb (ix3 0 0 s)) = _
  rw [h0, V_dys]
  exact scale_at _ _ t s

theorem read_w (c : Dev nD) (t : Fin cfg0.N) (n : Fin 2560) (k : Fin 10240) :
    iblk m c 4 t (ix2 n k) = (args m c).w n k := by
  have h0 : ((cfg0.win 4).blk t).view.emb (ix2 n k) = ix2 n k := by
    blk_ext [(idx t).2.2.2.2.1]
  show V m c main_arg4 (((cfg0.win 4).blk t).view.emb (ix2 n k)) = _
  rw [h0, V_main_arg4]; rfl

theorem read_ws (c : Dev nD) (t : Fin cfg0.N) (u : Fin 1) (n : Fin 2560) :
    iblk m c 5 t (ix2 u n) = (args m c).ws n := by
  have h0 : ((cfg0.win 5).blk t).view.emb (ix2 u n) = ix2 u n := by
    blk_ext [(idx t).2.2.2.2.2.1]
  show V m c main_v6 (((cfg0.win 5).blk t).view.emb (ix2 u n)) = _
  rw [h0, V_ws]; pointwise; rfl

theorem read_la (c : Dev nD) (t : Fin cfg0.N) (r : Fin 96) (n : Fin 2560) :
    iblk m c 6 t (ix2 r n) = (args m c).la n r := by
  have h0 : ((cfg0.win 6).blk t).view.emb (ix2 r n) = ix2 r n := by
    blk_ext [(idx t).2.2.2.2.2.2.1]
  show V m c main_v7 (((cfg0.win 6).blk t).view.emb (ix2 r n)) = _
  rw [h0, V_la]; pointwise; rfl

theorem read_lb (c : Dev nD) (t : Fin cfg0.N) (r : Fin 96) (k : Fin 10240) :
    iblk m c 7 t (ix2 r k) = (args m c).lb r k := by
  have h0 : ((cfg0.win 7).blk t).view.emb (ix2 r k) = ix2 r k := by
    blk_ext [(idx t).2.2.2.2.2.2.2]
  show V m c main_arg7 (((cfg0.win 7).blk t).view.emb (ix2 r k)) = _
  rw [h0, V_main_arg7]; rfl

end Cert.KernelIdeal.Value

end
-- ==== Proof.Pieces.lean ====
/-
  The kernel's three-piece products, at the ideal instance. A number v is split into bf16 pieces hi = v, mid = v - hi,
  lo = (v - hi) - mid, stacked along the rows; where v is a number the last two are zero, so that a product with the
  stack is the product with v.
-/
module

public import proofs.«01_k».proof.Proof.Reals
public import proofs.«01_k».proof.Proof.Gen.KernelIdeal.Skeleton
public import Idealize.ShloMosaic.Lib.Pointwise

@[expose] public section

set_option maxRecDepth 16384

noncomputable section

namespace Cert.KernelIdeal.Value

open Idealize.ShloMosaic Cert.KernelIdeal Cert.KernelIdeal.Gen Cert.KernelIdeal.Facts Cert.Reals

/-- The stack [hi; mid; lo] of the pieces of `v`, as the body computes it. -/
def pieces (v : FVec Ideal S96x512 .f32) : FVec Ideal S288x512 .bf16 :=
  concatenate S288x512 0 [⟨S96x512, truncf .bf16 v bitsLt_bf16_f32⟩,
    ⟨S96x512, truncf .bf16 (subf v (extf .f32 (truncf .bf16 v bitsLt_bf16_f32) bitsLt_bf16_f32)) bitsLt_bf16_f32⟩,
    ⟨S96x512, truncf .bf16 (subf (subf v (extf .f32 (truncf .bf16 v bitsLt_bf16_f32) bitsLt_bf16_f32))
      (extf .f32 (truncf .bf16 (subf v (extf .f32 (truncf .bf16 v bitsLt_bf16_f32) bitsLt_bf16_f32)) bitsLt_bf16_f32)
        bitsLt_bf16_f32)) bitsLt_bf16_f32⟩] concatenates_S96x512_S96x512_S96x512_S288x512_d0

/-- The stack's first 96 rows are `v`, the others zero. -/
theorem pieces_apply (v : FVec Ideal S96x512 .f32) (hv : ∀ i, IsReal (v i)) (p : Fin 288) (k : Fin 512) :
    pieces v (ix2 p k) = if h : p.val < 96 then v (ix2 ⟨p.val, h⟩ k) else 0 := by
  unfold pieces
  pointwise
  simp only [(hv _).sub_self, isReal_zero.sub_self]
  split_ifs <;> rfl

/-- The product of the stack with a matrix, at a row of the stack. -/
theorem pieces_dot {φ : FTy} (v : FVec Ideal S96x512 .f32) (hv : ∀ i, IsReal (v i)) (R : FVec Ideal S512x512 φ)
    (p : Fin 288) (l : Fin 512) :
    matmul dot_S288x512_S512x512_S288x512_1_0_0_1_n_n none (pieces v) R (constant S288x512 .f32 0x00000000#32) (ix2 p l)
      = if h : p.val < 96 then ∑ k : Fin 512, v (ix2 ⟨p.val, h⟩ k) * R (ix2 k l) else 0 := by
  pointwise
  simp only [pieces_apply v hv]
  split_ifs <;> simp

/-- What one tile of a gradient is added: the sum of the products of the three pieces, the smallest first. -/
def addTile {φ : FTy} (w : FVec Ideal S96x512 .f32) (L : FVec Ideal S288x512 .bf16) (R : FVec Ideal S512x512 φ) :
    FVec Ideal S96x512 .f32 :=
  addf w (addf (addf
    (extractStridedSlice S96x512 ![192, 0]
      (matmul dot_S288x512_S512x512_S288x512_1_0_0_1_n_n none L R (constant S288x512 .f32 0x00000000#32))
      slices_S288x512_o192_0_S96x512)
    (extractStridedSlice S96x512 ![96, 0]
      (matmul dot_S288x512_S512x512_S288x512_1_0_0_1_n_n none L R (constant S288x512 .f32 0x00000000#32))
      slices_S288x512_o96_0_S96x512))
    (extractStridedSlice S96x512 ![0, 0]
      (matmul dot_S288x512_S512x512_S288x512_1_0_0_1_n_n none L R (constant S288x512 .f32 0x00000000#32))
      slices_S288x512_o0_0_S96x512))

/-- A tile of a gradient is added the product of the split matrix. -/
theorem addTile_pieces {φ : FTy} (w v : FVec Ideal S96x512 .f32) (hv : ∀ i, IsReal (v i)) (R : FVec Ideal S512x512 φ)
    (i : S96x512.Idx) :
    addTile w (pieces v) R i = w i + ∑ k : Fin 512, v (ix2 (i 0) k) * R (ix2 k (i 1)) := by
  idx_vars i
  have h := fun p => pieces_dot v hv R p i1
  unfold addTile
  generalize matmul dot_S288x512_S512x512_S288x512_1_0_0_1_n_n none (pieces v) R (constant S288x512 .f32 0x00000000#32) = P at h ⊢
  pointwise
  simp only [h]
  have h0 := i0.isLt
  rw [dif_neg (by simp; omega), dif_neg (by simp), dif_pos (by simpa using h0)]
  simp

/-- The product of the transposed stack with a matrix of 288 rows: only the first 96 rows of that matrix count. -/
theorem lhs_dot (v : FVec Ideal S96x512 .f32) (hv : ∀ i, IsReal (v i)) (Q : FVec Ideal S288x512 .bf16)
    (j n : Fin 512) :
    k0_pay54 (k0_pay49 v) Q (ix2 j n) = ∑ p : Fin 96, v (ix2 p j) * Q (ix2 ⟨p.val, by omega⟩ n) := by
  pointwise [k0_pay54, k0_pay49]
  simp only [(hv _).sub_self, isReal_zero.sub_self, ite_self, dite_eq_ite]
  rw [Fin.sum_univ_two_halves 96 192 rfl]
  simp

end Cert.KernelIdeal.Value

end
-- ==== Proof.KernelBody.lean ====
/-
  The kernel's body at the ideal instance, as a function of the blocks it reads: t and xa of the block's 512 tokens.
-/
module

public import proofs.«01_k».proof.Proof.Pieces
public import Idealize.ShloMosaic.Lib.Pipeline.ValueKit

@[expose] public section

set_option maxRecDepth 16384

noncomputable section

namespace Cert.KernelIdeal.Value

open Idealize.ShloMosaic Cert.KernelIdeal Cert.KernelIdeal.Gen Cert.KernelIdeal.Facts Cert.Reals

/-- 512 columns of LoRA's B. -/
abbrev cols7 (x : FVec Ideal S96x10240 .bf16) (o : ℕ) (h : ∀ a, (![0, o] : Fin 2 → Nat) a + S96x512.size a ≤ S96x10240.size a) :
    FVec Ideal S96x512 .bf16 :=
  View.ld (Val := Elt Ideal) (e' := .bf16) x (Rect.unit (s := S96x10240) ![0, o] S96x512.size h)

/-- 512 columns of the block of dy. -/
abbrev cols2 (x : FVec Ideal S512x10240 .fp8e5m2) (o : ℕ) (h : ∀ a, (![0, o] : Fin 2 → Nat) a + S512x512.size a ≤ S512x10240.size a) :
    FVec Ideal S512x512 .fp8e5m2 :=
  View.ld (Val := Elt Ideal) (e' := .fp8e5m2) x (Rect.unit (s := S512x10240) ![0, o] S512x512.size h)

/-- The product of one chunk of columns, at a row and a token. -/
def dotc (L : FVec Ideal S96x512 .bf16) (R : FVec Ideal S512x512 .fp8e5m2) (r : Fin 96) (s : Fin 512) : EReal :=
  ∑ k : Fin 512, L (ix2 r k) * R (ix2 s k)

/-- `t` of the block's tokens, transposed: twenty products over 512 columns each, added in order, by the scale. -/
def tBlk (x2 : FVec Ideal S512x10240 .fp8e5m2) (x3 : FVec Ideal S1x1x512 .f32) (x7 : FVec Ideal S96x10240 .bf16) :
    FVec Ideal S96x512 .f32 :=
  k0_pay47 (k0_pay5 x3)
    (k0_pay42
      (k0_pay37
        (k0_pay34
          (k0_pay30
            (k0_pay28
              (k0_pay24
                (k0_pay17
                  (k0_pay14
                    (k0_pay11
                      (cols7 x7 0 inb_S96x10240_S96x512_0_0)
                      (cols2 x2 0 inb_S512x10240_S512x512_0_0)
                      (cols7 x7 512 inb_S96x10240_S96x512_0_512)
                      (cols2 x2 512 inb_S512x10240_S512x512_0_512)
                      (cols7 x7 1024 inb_S96x10240_S96x512_0_1024)
                      (cols2 x2 1024 inb_S512x10240_S512x512_0_1024))
                    (cols7 x7 1536 inb_S96x10240_S96x512_0_1536)
                    (cols2 x2 1536 inb_S512x10240_S512x512_0_1536)
                    (cols7 x7 2048 inb_S96x10240_S96x512_0_2048)
                    (cols2 x2 2048 inb_S512x10240_S512x512_0_2048))
                  (cols7 x7 2560 inb_S96x10240_S96x512_0_2560)
                  (cols2 x2 2560 inb_S512x10240_S512x512_0_2560)
                  (cols7 x7 3072 inb_S96x10240_S96x512_0_3072)
                  (cols2 x2 3072 inb_S512x10240_S512x512_0_3072))
                (cols7 x7 3584 inb_S96x10240_S96x512_0_3584)
                (cols2 x2 3584 inb_S512x10240_S512x512_0_3584)
                (cols7 x7 4096 inb_S96x10240_S96x512_0_4096)
                (cols2 x2 4096 inb_S512x10240_S512x512_0_4096))
              (cols7 x7 4608 inb_S96x10240_S96x512_0_4608)
              (cols2 x2 4608 inb_S512x10240_S512x512_0_4608)
              (cols7 x7 5120 inb_S96x10240_S96x512_0_5120)
              (cols2 x2 5120 inb_S512x10240_S512x512_0_5120))
            (cols7 x7 5632 inb_S96x10240_S96x512_0_5632)
            (cols2 x2 5632 inb_S512x10240_S512x512_0_5632))
          (cols7 x7 6144 inb_S96x10240_S96x512_0_6144)
          (k0_pay32 (cols2 x2 6144 inb_S512x10240_S512x512_0_6144))
          (cols7 x7 6656 inb_S96x10240_S96x512_0_6656)
          (cols2 x2 6656 inb_S512x10240_S512x512_0_6656))
        (cols7 x7 7168 inb_S96x10240_S96x512_0_7168)
        (cols2 x2 7168 inb_S512x10240_S512x512_0_7168)
        (cols7 x7 7680 inb_S96x10240_S96x512_0_7680)
        (cols2 x2 7680 inb_S512x10240_S512x512_0_7680))
      (cols7 x7 8192 inb_S96x10240_S96x512_0_8192)
      (cols2 x2 8192 inb_S512x10240_S512x512_0_8192)
      (cols7 x7 8704 inb_S96x10240_S96x512_0_8704)
      (cols2 x2 8704 inb_S512x10240_S512x512_0_8704))
    (cols7 x7 9216 inb_S96x10240_S96x512_0_9216)
    (cols2 x2 9216 inb_S512x10240_S512x512_0_9216)
    (cols7 x7 9728 inb_S96x10240_S96x512_0_9728)
    (cols2 x2 9728 inb_S512x10240_S512x512_0_9728)

/-- The sum over 512 columns of 10240 from `o` on. -/
def chunk (f : Fin 10240 → EReal) (o : ℕ) (h : o + 512 ≤ 10240) : EReal := ∑ k : Fin 512, f ⟨o + k.val, by omega⟩

/-- A sum over 10240 columns as twenty sums over 512. -/
theorem sum_chunks (f : Fin 10240 → EReal) :
    ∑ k, f k = chunk f 0 (by decide) + chunk f 512 (by decide) + chunk f 1024 (by decide) + chunk f 1536 (by decide) + chunk f 2048 (by decide) + chunk f 2560 (by decide) + chunk f 3072 (by decide) + chunk f 3584 (by decide) + chunk f 4096 (by decide) + chunk f 4608 (by decide) + chunk f 5120 (by decide) + chunk f 5632 (by decide) + chunk f 6144 (by decide) + chunk f 6656 (by decide) + chunk f 7168 (by decide) + chunk f 7680 (by decide) + chunk f 8192 (by decide) + chunk f 8704 (by decide) + chunk f 9216 (by decide) + chunk f 9728 (by decide) := by
  have h : ∑ k, f k = ∑ q : Fin 20, chunk f (512 * q.val) (by omega) := by
    rw [← Equiv.sum_comp (finProdFinEquiv (m := 20) (n := 512)) f, Fintype.sum_prod_type]
    refine Finset.sum_congr rfl fun q _ => Finset.sum_congr rfl fun k _ => congrArg f (Fin.ext ?_)
    simp [finProdFinEquiv]
    omega
  rw [h]
  simp only [Fin.sum_univ_castSucc, Fin.sum_univ_zero, zero_add]
  rfl

theorem first_apply (L1 L2 L3 : FVec Ideal S96x512 .bf16) (R1 R2 R3 : FVec Ideal S512x512 .fp8e5m2) (r : Fin 96) (s : Fin 512) :
    k0_pay11 (F := Ideal) L1 R1 L2 R2 L3 R3 (ix2 r s) = dotc L1 R1 r s + dotc L2 R2 r s + dotc L3 R3 r s := by
  pointwise [k0_pay11]
  rfl

theorem one_apply (a : FVec Ideal S96x512 .f32) (L1 : FVec Ideal S96x512 .bf16) (R1 : FVec Ideal S512x512 .fp8e5m2) (r : Fin 96) (s : Fin 512) :
    k0_pay30 a L1 R1 (ix2 r s) = a (ix2 r s) + dotc L1 R1 r s := by
  pointwise [k0_pay30]
  rfl

/-- The steps of two products each. -/
theorem two_apply (a : FVec Ideal S96x512 .f32) (L1 L2 : FVec Ideal S96x512 .bf16) (R1 R2 : FVec Ideal S512x512 .fp8e5m2) (r : Fin 96) (s : Fin 512) :
    k0_pay14 a L1 R1 L2 R2 (ix2 r s) = a (ix2 r s) + dotc L1 R1 r s + dotc L2 R2 r s := by
  pointwise [k0_pay14]
  rfl

theorem step_34 (a : FVec Ideal S96x512 .f32) (L1 L2 : FVec Ideal S96x512 .bf16) (R1 R2 : FVec Ideal S512x512 .fp8e5m2) :
    k0_pay34 a L1 (k0_pay32 R1) L2 R2 = k0_pay14 a L1 R1 L2 R2 := rfl

theorem last_apply (x3 : FVec Ideal S1x1x512 .f32) (a : FVec Ideal S96x512 .f32) (L1 L2 : FVec Ideal S96x512 .bf16) (R1 R2 : FVec Ideal S512x512 .fp8e5m2) (r : Fin 96) (s : Fin 512) :
    k0_pay47 (k0_pay5 x3) a L1 R1 L2 R2 (ix2 r s) = (a (ix2 r s) + dotc L1 R1 r s + dotc L2 R2 r s) * x3 (ix3 0 0 s) := by
  pointwise [k0_pay47, k0_pay5]
  rfl

theorem dotc_cols (x2 : FVec Ideal S512x10240 .fp8e5m2) (x7 : FVec Ideal S96x10240 .bf16) (o : ℕ) (ho : o + 512 ≤ 10240) (h h')
    (r : Fin 96) (s : Fin 512) :
    dotc (cols7 x7 o h) (cols2 x2 o h') r s = chunk (fun k => x7 (ix2 r k) * x2 (ix2 s k)) o ho := by
  refine Finset.sum_congr rfl fun k _ => ?_
  pointwise [cols7, cols2]

theorem tBlk_apply (x2 : FVec Ideal S512x10240 .fp8e5m2) (x3 : FVec Ideal S1x1x512 .f32) (x7 : FVec Ideal S96x10240 .bf16)
    (r : Fin 96) (s : Fin 512) :
    tBlk x2 x3 x7 (ix2 r s) = (∑ k : Fin 10240, x7 (ix2 r k) * x2 (ix2 s k)) * x3 (ix3 0 0 s) := by
  have h17 : @k0_pay17 Ideal _ = @k0_pay14 Ideal _ := rfl
  have h24 : @k0_pay24 Ideal _ = @k0_pay14 Ideal _ := rfl
  have h28 : @k0_pay28 Ideal _ = @k0_pay14 Ideal _ := rfl
  have h37 : @k0_pay37 Ideal _ = @k0_pay14 Ideal _ := rfl
  have h42 : @k0_pay42 Ideal _ = @k0_pay14 Ideal _ := rfl
  rw [tBlk, h17, h24, h28, h37, h42, sum_chunks]
  simp only [step_34, last_apply, one_apply, two_apply]
  rw [first_apply]
  rw [dotc_cols x2 x7 0 (by decide), dotc_cols x2 x7 512 (by decide), dotc_cols x2 x7 1024 (by decide), dotc_cols x2 x7 1536 (by decide), dotc_cols x2 x7 2048 (by decide), dotc_cols x2 x7 2560 (by decide), dotc_cols x2 x7 3072 (by decide), dotc_cols x2 x7 3584 (by decide), dotc_cols x2 x7 4096 (by decide), dotc_cols x2 x7 4608 (by decide), dotc_cols x2 x7 5120 (by decide), dotc_cols x2 x7 5632 (by decide), dotc_cols x2 x7 6144 (by decide), dotc_cols x2 x7 6656 (by decide), dotc_cols x2 x7 7168 (by decide), dotc_cols x2 x7 7680 (by decide), dotc_cols x2 x7 8192 (by decide), dotc_cols x2 x7 8704 (by decide), dotc_cols x2 x7 9216 (by decide), dotc_cols x2 x7 9728 (by decide)]

theorem xaBlk_apply (x0 : FVec Ideal S512x2560 .fp8e4m3) (x1 : FVec Ideal S1x1x512 .f32) (x6 : FVec Ideal S96x2560 .bf16)
    (r : Fin 96) (s : Fin 512) :
    k0_pay7 (F := Ideal) x1 x6 x0 (ix2 r s) = (∑ k : Fin 2560, x6 (ix2 r k) * x0 (ix2 s k)) * x1 (ix3 0 0 s) := by
  pointwise [k0_pay7, k0_pay4]

end Cert.KernelIdeal.Value

end
-- ==== Proof.KernelTiles.lean ====
/-
  The tiles that the kernel's body stores, at the ideal instance: each is a block of one function of the blocks read.
-/
module

public import proofs.«01_k».proof.Proof.Pieces
public import proofs.«01_k».proof.Proof.Spec
public import Idealize.ShloMosaic.Lib.Pipeline.ValueKit

@[expose] public section

set_option maxRecDepth 16384

noncomputable section

namespace Cert.KernelIdeal.Value

open Idealize.ShloMosaic Cert.KernelIdeal Cert.KernelIdeal.Gen Cert.KernelIdeal.Facts Cert.Reals Cert.Spec

/-- The matrix (t · x_scale) · 2 of a block's tokens, transposed. -/
def gradT (x1 : FVec Ideal S1x1x512 .f32) (v : FVec Ideal S96x512 .f32) : FVec Ideal S96x512 .f32 :=
  mulf (mulf v (broadcastTo S96x512 (k0_pay4 x1) broadcasts_S1x512_S96x512))
    (broadcast S96x512 (Scalar.ofBits .f32 0x40000000#32))

theorem gradT_apply (x1 : FVec Ideal S1x1x512 .f32) (v : FVec Ideal S96x512 .f32) (r : Fin 96) (s : Fin 512) :
    gradT x1 v (ix2 r s) = v (ix2 r s) * x1 (ix3 0 0 s) * two := by
  pointwise [gradT, k0_pay4]
  rfl

theorem pieces_t (x1 : FVec Ideal S1x1x512 .f32) (v : FVec Ideal S96x512 .f32) :
    k0_pay50 (F := Ideal) (k0_pay4 x1) v = pieces (gradT x1 v) := by
  show shapeCast S288x512 (pieces (gradT x1 v)) shapeCasts_S288x512_S288x512 = _
  rw [shapeCast_self]

theorem pieces_xa (x1 x3 : FVec Ideal S1x1x512 .f32) (x6 : FVec Ideal S96x2560 .bf16) (x0 : FVec Ideal S512x2560 .fp8e4m3) :
    k0_pay10 (F := Ideal) (k0_pay9 x1 x3 x6 x0) = pieces (gradT x3 (k0_pay7 x1 x6 x0)) := by
  show shapeCast S288x512 (pieces (gradT x3 (k0_pay7 x1 x6 x0))) shapeCasts_S288x512_S288x512 = _
  rw [shapeCast_self]

theorem tile_db (w : FVec Ideal S96x512 .f32) (L : FVec Ideal S288x512 .bf16) (R : FVec Ideal S512x512 .fp8e5m2) :
    k0_pay13 (F := Ideal) w L R = addTile w L R := by
  unfold k0_pay13
  simp only [shapeCast_self]
  rfl

theorem tile_da (w : FVec Ideal S96x512 .f32) (L : FVec Ideal S288x512 .bf16) (R : FVec Ideal S512x512 .fp8e4m3) :
    k0_pay57 (F := Ideal) w L R = addTile w L R := by
  unfold k0_pay57
  simp only [shapeCast_self]
  rfl

/-- Where a tile of columns from `o` on lies. -/
theorem tile_emb {n k N : ℕ} (o : ℕ) (h : ∀ a, (![0, o] : Fin 2 → ℕ) a + (![n, k] : Fin 2 → ℕ) a ≤ (![n, N] : Fin 2 → ℕ) a)
    (r : Fin n) (l : Fin k) :
    (Rect.unit (s := ⟨2, ![n, N]⟩) ![0, o] ![n, k] h).emb (ix2 r l)
      = ix2 r ⟨o + l.val, by have : o + k ≤ N := h 1; have := l.isLt; omega⟩ := by
  funext a
  refine Fin.ext ?_
  rw [ValueKit.rect_emb_unit_val]
  match a with
  | 0 => exact Nat.zero_add _
  | 1 => rfl

/-- A tile of dB after a point: what it held, added the product with the block of dy. -/
theorem dbTile (w : FVec Ideal S96x10240 .f32) (V : FVec Ideal S96x512 .f32) (hV : ∀ i, IsReal (V i))
    (x2 : FVec Ideal S512x10240 .fp8e5m2) (o : ℕ)
    (h : ∀ a, (![0, o] : Fin 2 → Nat) a + S96x512.size a ≤ S96x10240.size a)
    (h' : ∀ a, (![0, o] : Fin 2 → Nat) a + S512x512.size a ≤ S512x10240.size a) (x : S96x512.Idx) :
    k0_pay13 (F := Ideal) (View.ld (Val := Elt Ideal) (e' := .f32) w (Rect.unit (s := S96x10240) ![0, o] S96x512.size h))
      (pieces V) (View.ld (Val := Elt Ideal) (e' := .fp8e5m2) x2 (Rect.unit (s := S512x10240) ![0, o] S512x512.size h')) x
      = (fun y : S96x10240.Idx => w y + ∑ s : Fin 512, V (ix2 (y 0) s) * x2 (ix2 s (y 1)) : FVec Ideal S96x10240 .f32)
          ((Rect.unit (s := S96x10240) ![0, o] S96x512.size h).emb x) := by
  rw [tile_db, addTile_pieces _ _ hV]
  idx_vars x
  have he : (Rect.unit (s := S96x10240) ![0, o] ![96, 512] h).emb (ix2 x0 x1) = _ := tile_emb o h x0 x1
  rw [he]
  pointwise

/-- A tile of dA after a point: what it held, added the product with the block of x. -/
theorem daTile (w : FVec Ideal S96x2560 .f32) (V : FVec Ideal S96x512 .f32) (hV : ∀ i, IsReal (V i))
    (x0 : FVec Ideal S512x2560 .fp8e4m3) (o : ℕ)
    (h : ∀ a, (![0, o] : Fin 2 → Nat) a + S96x512.size a ≤ S96x2560.size a)
    (h' : ∀ a, (![0, o] : Fin 2 → Nat) a + S512x512.size a ≤ S512x2560.size a) (x : S96x512.Idx) :
    k0_pay57 (F := Ideal) (View.ld (Val := Elt Ideal) (e' := .f32) w (Rect.unit (s := S96x2560) ![0, o] S96x512.size h))
      (pieces V) (View.ld (Val := Elt Ideal) (e' := .fp8e4m3) x0 (Rect.unit (s := S512x2560) ![0, o] S512x512.size h')) x
      = (fun y : S96x2560.Idx => w y + ∑ s : Fin 512, V (ix2 (y 0) s) * x0 (ix2 s (y 1)) : FVec Ideal S96x2560 .f32)
          ((Rect.unit (s := S96x2560) ![0, o] S96x512.size h).emb x) := by
  rw [tile_da, addTile_pieces _ _ hV]
  idx_vars x
  have he : (Rect.unit (s := S96x2560) ![0, o] ![96, 512] h).emb (ix2 x0 x1) = _ := tile_emb o h x0 x1
  rw [he]
  pointwise

/-- A block of dx. -/
def dxG (x2 : FVec Ideal S512x10240 .fp8e5m2) (x3 : FVec Ideal S1x1x512 .f32) (x4 : FVec Ideal S2560x10240 .fp8e4m3)
    (x5 : FVec Ideal S1x2560 .f32) (v : FVec Ideal S96x512 .f32) (a3 : FVec Ideal S288x2560 .bf16) : FVec Ideal S512x2560 .bf16 :=
  fun y => (∑ k : Fin 10240, x2 (ix2 (y 0) k) * x4 (ix2 (y 1) k)) * (x3 (ix3 0 0 (y 0)) * x5 (ix2 0 (y 1)))
    + two * ∑ p : Fin 96, v (ix2 p (y 0)) * a3 (ix2 ⟨p.val, by omega⟩ (y 1))

theorem dxTile (x2 : FVec Ideal S512x10240 .fp8e5m2) (x3 : FVec Ideal S1x1x512 .f32) (x4 : FVec Ideal S2560x10240 .fp8e4m3)
    (x5 : FVec Ideal S1x2560 .f32) (v : FVec Ideal S96x512 .f32) (hv : ∀ i, IsReal (v i)) (a3 : FVec Ideal S288x2560 .bf16)
    (o : ℕ) (h : ∀ a, (![0, o] : Fin 2 → Nat) a + S512x512.size a ≤ S512x2560.size a)
    (h1 : ∀ a, (![0, o] : Fin 2 → Nat) a + S288x512.size a ≤ S288x2560.size a)
    (h2 : ∀ a, (![o, 0] : Fin 2 → Nat) a + S512x10240.size a ≤ S2560x10240.size a)
    (h3 : ∀ a, (![0, o] : Fin 2 → Nat) a + S1x512.size a ≤ S1x2560.size a) (x : S512x512.Idx) :
    k0_pay56 (F := Ideal)
      (k0_pay54 (k0_pay49 v)
        (View.ld (Val := Elt Ideal) (e' := .bf16) a3 (Rect.unit (s := S288x2560) ![0, o] S288x512.size h1)))
      (k0_pay55 x2)
      (View.ld (Val := Elt Ideal) (e' := .fp8e4m3) x4 (Rect.unit (s := S2560x10240) ![o, 0] S512x10240.size h2))
      (k0_pay6 (F := Ideal) x3) (View.ld (Val := Elt Ideal) (e' := .f32) x5 (Rect.unit (s := S1x2560) ![0, o] S1x512.size h3)) x
      = dxG x2 x3 x4 x5 v a3 ((Rect.unit (s := S512x2560) ![0, o] S512x512.size h).emb x) := by
  idx_vars x
  have he : (Rect.unit (s := S512x2560) ![0, o] ![512, 512] h).emb (ix2 x0 x1) = _ := tile_emb o h x0 x1
  rw [he]
  unfold dxG
  have hl := lhs_dot v hv (View.ld (Val := Elt Ideal) (e' := .bf16) a3 (Rect.unit (s := S288x2560) ![0, o] S288x512.size h1)) x0 x1
  generalize k0_pay54 (F := Ideal) (k0_pay49 v) _ = P at hl ⊢
  pointwise [k0_pay56, k0_pay55, k0_pay6, k0_pay5]
  simp only [dite_eq_ite, ite_self]
  rw [hl]
  unfold two
  pointwise

end Cert.KernelIdeal.Value

end
-- ==== Proof.KernelPoint.lean ====
/-
  What the kernel leaves in each output's buffer and in the carried scratch after a grid point, at the ideal instance.
-/
module

public import proofs.«01_k».proof.Proof.KernelReads
public import proofs.«01_k».proof.Proof.KernelBody
public import proofs.«01_k».proof.Proof.KernelTiles
public import Idealize.ShloMosaic.Lib.Pipeline.ReadBack
public import Idealize.ShloMosaic.Lib.Pipeline.ValueKit.Held

@[expose] public section

set_option maxRecDepth 16384

noncomputable section

namespace Cert.KernelIdeal.Value

open Idealize.ShloMosaic Idealize.ShloMosaic.TcCoe Idealize.SL.Sem
open Cert.KernelIdeal Cert.KernelIdeal.Gen Cert.KernelIdeal.Facts Cert.Spec Cert.Reals

variable (m : (ℓ : Loc nD τ sig) → Buf (Elt Ideal) ℓ)

/-- `t` of a point's tokens. -/
abbrev tPt (c : Dev nD) (t : Fin cfg0.N) : FVec Ideal S96x512 .f32 :=
  tBlk (iblk m c 2 t) (iblk m c 3 t) (iblk m c 7 t)

/-- `xa` of a point's tokens. -/
abbrev xaPt (c : Dev nD) (t : Fin cfg0.N) : FVec Ideal S96x512 .f32 :=
  k0_pay7 (iblk m c 1 t) (iblk m c 6 t) (iblk m c 0 t)

theorem tPt_apply (c : Dev nD) (t : Fin cfg0.N) (r : Fin 96) (s : Fin 512) :
    tPt m c t (ix2 r s) = (args m c).t (tok t s) r := by
  rw [tPt, tBlk_apply]
  simp only [read_dy, read_dys, read_lb]
  rfl

theorem xaPt_apply (c : Dev nD) (t : Fin cfg0.N) (r : Fin 96) (s : Fin 512) :
    xaPt m c t (ix2 r s) = (args m c).xa (tok t s) r := by
  rw [xaPt, xaBlk_apply]
  simp only [read_x, read_xs, read_la]
  rfl

/-! ## The block written -/

theorem xa_point (c : Dev nD) (t : Fin cfg0.N) (u : Fin 1) (r : Fin 96) (s : Fin 512) :
    (outsAt0 m c t.val t.isLt).2.2.2.2.1 (ix3 u r s) = (args m c).xa (tok t s) r := by
  rw [← xaPt_apply]
  by_cases h : t.val % 16 = 0
  · rw [outsAt0_A m c t h]
    frame_out
    pointwise [k0_pay8]
  · rw [outsAt0_B m c t h]
    frame_out
    pointwise [k0_pay8]

theorem t_point (c : Dev nD) (t : Fin cfg0.N) (u : Fin 1) (r : Fin 96) (s : Fin 512) :
    (outsAt0 m c t.val t.isLt).2.2.2.1 (ix3 u r s) = (args m c).t (tok t s) r := by
  rw [← tPt_apply]
  by_cases h : t.val % 16 = 0
  · rw [outsAt0_A m c t h]
    frame_out
    change k0_pay48 (F := Ideal) (tPt m c t) (ix3 u r s) = _
    generalize tPt m c t = v
    pointwise [k0_pay48]
  · rw [outsAt0_B m c t h]
    frame_out
    change k0_pay48 (F := Ideal) (tPt m c t) (ix3 u r s) = _
    generalize tPt m c t = v
    pointwise [k0_pay48]

/-- The carried scratch after any point: LoRA's A, transposed, three times. -/
theorem scratch_point (c : Dev nD) (t : Fin cfg0.N) (p : Fin 288) (hp : p.val < 96) (n : Fin 2560) :
    (outsAt0 m c t.val t.isLt).2.2.2.2.2 (ix2 p n) = (args m c).la n ⟨p.val, hp⟩ := by
  rw [Pipeline.eq_of_write_hold_apply (fun n h => (outsAt0 m c n h).2.2.2.2.2) 16
    (fun t => k0_pay1 (F := Ideal) (iblk m c 6 t)) (fun t h j => by rw [outsAt0_A m c t h]; frame_out)
    (fun t h j => by rw [outsAt0_B m c t h]; dsimp only; unfold sout0_B_0; rfl) t (ix2 p n)]
  generalize (⟨16 * (t.val / 16), _⟩ : Fin cfg0.N) = t'
  have hr := fun r k => read_la m c t' r k
  generalize iblk m c 6 t' = x6 at hr ⊢
  pointwise [k0_pay1]
  rw [dif_pos hp]
  exact hr _ n

end Cert.KernelIdeal.Value

end
-- ==== Proof.KernelSteps.lean ====
/-
  The gradients' blocks after a grid point: dx's block, and what dA and dB are added, at the ideal instance.
-/
module

public import proofs.«01_k».proof.Proof.KernelPoint

@[expose] public section

set_option maxRecDepth 16384

noncomputable section

namespace Cert.KernelIdeal.Value

open Idealize.ShloMosaic Idealize.ShloMosaic.TcCoe Idealize.SL.Sem
open Cert.KernelIdeal Cert.KernelIdeal.Gen Cert.KernelIdeal.Facts Cert.Spec Cert.Reals

variable (m : (ℓ : Loc nD τ sig) → Buf (Elt Ideal) ℓ)

theorem tPt_real (c : Dev nD) (hA : (args m c).Finite) (t : Fin cfg0.N) (i : S96x512.Idx) : IsReal (tPt m c t i) := by
  idx_vars i
  rw [tPt_apply]
  exact hA.t _ _

theorem gradT_real (c : Dev nD) (hA : (args m c).Finite) (t : Fin cfg0.N) (i : S96x512.Idx) :
    IsReal (gradT (iblk m c 1 t) (tPt m c t) i) := by
  idx_vars i
  rw [gradT_apply, tPt_apply, read_xs]
  exact ((hA.t _ _).mul (hA.xs _)).mul isReal_two'

theorem gradX_real (c : Dev nD) (hA : (args m c).Finite) (t : Fin cfg0.N) (i : S96x512.Idx) :
    IsReal (gradT (iblk m c 3 t) (xaPt m c t) i) := by
  idx_vars i
  rw [gradT_apply, xaPt_apply, read_dys]
  exact ((hA.xa _ _).mul (hA.dys _)).mul isReal_two'

/-- The five column tiles of dx are computed by the same three functions. -/
theorem dx_names :
    k0_pay58 (F := Ideal) = k0_pay54 ∧ k0_pay62 (F := Ideal) = k0_pay54 ∧ k0_pay66 (F := Ideal) = k0_pay54
      ∧ k0_pay70 (F := Ideal) = k0_pay54 ∧ k0_pay59 (F := Ideal) = k0_pay55 ∧ k0_pay63 (F := Ideal) = k0_pay55
      ∧ k0_pay67 (F := Ideal) = k0_pay55 ∧ k0_pay71 (F := Ideal) = k0_pay55 ∧ k0_pay60 (F := Ideal) = k0_pay56
      ∧ k0_pay64 (F := Ideal) = k0_pay56 ∧ k0_pay68 (F := Ideal) = k0_pay56 ∧ k0_pay72 (F := Ideal) = k0_pay56 :=
  ⟨rfl, rfl, rfl, rfl, rfl, rfl, rfl, rfl, rfl, rfl, rfl, rfl⟩

/-- dx's block after a point, with the carried scratch `a3`. -/
theorem dx_tiles (c : Dev nD) (hA : (args m c).Finite) (t : Fin cfg0.N) (y : S512x2560.Idx) :
    ∃ a3 : FVec Ideal S288x2560 .bf16, (∀ (p : Fin 288) (hp : p.val < 96) (n : Fin 2560), a3 (ix2 p n) = (args m c).la n ⟨p.val, hp⟩)
      ∧ (outsAt0 m c t.val t.isLt).1 y
        = dxG (iblk m c 2 t) (iblk m c 3 t) (iblk m c 4 t) (iblk m c 5 t) (tPt m c t) a3 y := by
  have hv := tPt_real m c hA t
  by_cases h : t.val % 16 = 0
  · refine ⟨(outsAt0 m c t.val t.isLt).2.2.2.2.2, fun p hp n => scratch_point m c t p hp n, ?_⟩
    have hs : (outsAt0 m c t.val t.isLt).2.2.2.2.2 = k0_pay1 (F := Ideal) (iblk m c 6 t) := by
      rw [outsAt0_A m c t h]; frame_out
    rw [hs, outsAt0_A m c t h]
    frame_open
    simp (disch := decide) only [↓ View.readCov_skip, ↓ View.readCov_cons_toLoadRect, ↓ View.readCov_fill]
    frame_out
    generalize hw : k0_pay47 (F := Ideal) _ _ _ _ _ _ = v
    have hv' : v = tPt m c t := hw.symm
    clear hw
    rw [← hv'] at hv ⊢
    simp only [dx_names]
    generalize k0_pay1 (F := Ideal) (iblk m c 6 t) = a3
    refine View.canon_append_of_piecesOf (Val := Elt Ideal) (s := S512x2560) (e := .bf16)
      (dxG (iblk m c 2 t) (iblk m c 3 t) (iblk m c 4 t) (iblk m c 5 t) v a3) [] [_, _, _, _, _]
      ⟨?_, ?_, ?_, ?_, ?_, trivial⟩ y (View.cover_of_tiledL (s := S512x2560) _ ![512, 512] (by sl_kernel_rfl) y)
    all_goals exact fun x => dxTile _ _ _ _ v hv a3 _ (by decide) _ _ _ x
  · refine ⟨(outsAt0 m c (t.val - 1) (Nat.lt_of_le_of_lt (Nat.sub_le _ _) t.isLt)).2.2.2.2.2,
      fun p hp n => scratch_point m c ⟨t.val - 1, Nat.lt_of_le_of_lt (Nat.sub_le _ _) t.isLt⟩ p hp n, ?_⟩
    rw [outsAt0_B m c t h]
    frame_out
    generalize hw : k0_pay47 (F := Ideal) _ _ _ _ _ _ = v
    have hv' : v = tPt m c t := hw.symm
    clear hw
    rw [← hv'] at hv ⊢
    simp only [read_unread_whole, dx_names]
    refine View.canon_append_of_piecesOf (Val := Elt Ideal) (s := S512x2560) (e := .bf16)
      (dxG (iblk m c 2 t) (iblk m c 3 t) (iblk m c 4 t) (iblk m c 5 t) v _) [] [_, _, _, _, _]
      ⟨?_, ?_, ?_, ?_, ?_, trivial⟩ y (View.cover_of_tiledL (s := S512x2560) _ ![512, 512] (by sl_kernel_rfl) y)
    all_goals exact fun x => dxTile _ _ _ _ v hv _ _ (by decide) _ _ _ x

theorem da_names :
    k0_pay61 (F := Ideal) = k0_pay57 ∧ k0_pay65 (F := Ideal) = k0_pay57 ∧ k0_pay69 (F := Ideal) = k0_pay57
      ∧ k0_pay73 (F := Ideal) = k0_pay57 :=
  ⟨rfl, rfl, rfl, rfl⟩

/-- What a block of tokens adds to dA. -/
abbrev daTerm (c : Dev nD) (t : Fin cfg0.N) : FVec Ideal S96x2560 .f32 :=
  fun y => ∑ s : Fin 512, gradT (iblk m c 1 t) (tPt m c t) (ix2 (y 0) s) * iblk m c 0 t (ix2 s (y 1))

/-- What a block of tokens adds to dB. -/
abbrev dbTerm (c : Dev nD) (t : Fin cfg0.N) : FVec Ideal S96x10240 .f32 :=
  fun y => ∑ s : Fin 512, gradT (iblk m c 3 t) (xaPt m c t) (ix2 (y 0) s) * iblk m c 2 t (ix2 s (y 1))

theorem da_reset (c : Dev nD) (hA : (args m c).Finite) (t : Fin cfg0.N) (h : t.val % 16 = 0) (y : S96x2560.Idx) :
    (outsAt0 m c t.val t.isLt).2.1 y = k0_pay2 (F := Ideal) y + daTerm m c t y := by
  have hv := gradT_real m c hA t
  rw [outsAt0_A m c t h]
  frame_open
  simp (disch := decide) only [↓ View.readCov_skip, ↓ View.readCov_cons_toLoadRect, ↓ View.readCov_fill]
  frame_out
  generalize hw : k0_pay47 (F := Ideal) _ _ _ _ _ _ = v
  have hv' : v = tPt m c t := hw.symm
  clear hw
  unfold daTerm
  rw [← hv'] at hv ⊢
  simp only [da_names, pieces_t]
  refine View.canon_append_of_piecesOf (Val := Elt Ideal) (s := S96x2560) (e := .f32)
    (fun y => k0_pay2 (F := Ideal) y + ∑ s : Fin 512, gradT (iblk m c 1 t) v (ix2 (y 0) s) * iblk m c 0 t (ix2 s (y 1)) : FVec Ideal S96x2560 .f32)
    [_] [_, _, _, _, _]
    ⟨?_, ?_, ?_, ?_, ?_, trivial⟩ y (View.cover_of_tiledL (s := S96x2560) _ ![96, 512] (by sl_kernel_rfl) y)
  all_goals exact daTile _ _ hv _ _ _ _

theorem da_step (c : Dev nD) (hA : (args m c).Finite) (t : Fin cfg0.N) (h : ¬ t.val % 16 = 0) (y : S96x2560.Idx) :
    (outsAt0 m c t.val t.isLt).2.1 y
      = (outsAt0 m c (t.val - 1) (Nat.lt_of_le_of_lt (Nat.sub_le _ _) t.isLt)).2.1 y + daTerm m c t y := by
  have hv := gradT_real m c hA t
  rw [outsAt0_B m c t h]
  frame_out
  generalize hw : k0_pay47 (F := Ideal) _ _ _ _ _ _ = v
  have hv' : v = tPt m c t := hw.symm
  clear hw
  unfold daTerm
  rw [← hv'] at hv ⊢
  simp only [da_names, pieces_t]
  generalize (outsAt0 m c (t.val - 1) (Nat.lt_of_le_of_lt (Nat.sub_le _ _) t.isLt)).2.1 = w
  refine View.canon_append_of_piecesOf (Val := Elt Ideal) (s := S96x2560) (e := .f32)
    (fun y => w y + ∑ s : Fin 512, gradT (iblk m c 1 t) v (ix2 (y 0) s) * iblk m c 0 t (ix2 s (y 1)) : FVec Ideal S96x2560 .f32)
    [] [_, _, _, _, _]
    ⟨?_, ?_, ?_, ?_, ?_, trivial⟩ y (View.cover_of_tiledL (s := S96x2560) _ ![96, 512] (by sl_kernel_rfl) y)
  all_goals exact daTile _ _ hv _ _ _ _

/-- The twenty column tiles of dB are computed by the same function. -/
theorem db_names :
    k0_pay12 (F := Ideal) = k0_pay13 ∧ k0_pay15 (F := Ideal) = k0_pay13 ∧ k0_pay16 (F := Ideal) = k0_pay13
      ∧ k0_pay23 (F := Ideal) = k0_pay13 ∧ k0_pay27 (F := Ideal) = k0_pay13 ∧ k0_pay29 (F := Ideal) = k0_pay13
      ∧ k0_pay31 (F := Ideal) = k0_pay13 ∧ k0_pay33 (F := Ideal) = k0_pay13 ∧ k0_pay35 (F := Ideal) = k0_pay13
      ∧ k0_pay36 (F := Ideal) = k0_pay13 ∧ k0_pay41 (F := Ideal) = k0_pay13 ∧ k0_pay46 (F := Ideal) = k0_pay13
      ∧ k0_pay51 (F := Ideal) = k0_pay13 ∧ k0_pay52 (F := Ideal) = k0_pay13 ∧ k0_pay53 (F := Ideal) = k0_pay13 :=
  ⟨rfl, rfl, rfl, rfl, rfl, rfl, rfl, rfl, rfl, rfl, rfl, rfl, rfl, rfl, rfl⟩

theorem db_names' (w : FVec Ideal S96x512 .f32) (L : FVec Ideal S288x512 .bf16) (R : FVec Ideal S512x512 .fp8e5m2) :
    k0_pay22 (F := Ideal) (k0_pay18 w) (k0_pay19 L R) (k0_pay20 L R) (k0_pay21 L R) = k0_pay13 w L R
      ∧ k0_pay26 (F := Ideal) (k0_pay25 w) L R = k0_pay13 w L R
      ∧ k0_pay40 (F := Ideal) (k0_pay38 w) (k0_pay39 L R) = k0_pay13 w L R
      ∧ k0_pay45 (F := Ideal) (k0_pay43 w) L (k0_pay44 R) (constant S288x512 .f32 0#32) = k0_pay13 w L R :=
  ⟨rfl, rfl, rfl, rfl⟩

theorem db_reset (c : Dev nD) (hA : (args m c).Finite) (t : Fin cfg0.N) (h : t.val % 16 = 0) (y : S96x10240.Idx) :
    (outsAt0 m c t.val t.isLt).2.2.1 y = k0_pay3 (F := Ideal) y + dbTerm m c t y := by
  have hv := gradX_real m c hA t
  rw [outsAt0_A m c t h]
  frame_open
  simp (disch := decide) only [↓ View.readCov_skip, ↓ View.readCov_cons_toLoadRect, ↓ View.readCov_fill]
  frame_out
  simp only [pieces_xa]
  generalize hw : gradT _ (k0_pay7 (F := Ideal) _ _ _) = V
  have hv' : V = gradT (iblk m c 3 t) (xaPt m c t) := hw.symm
  clear hw
  unfold dbTerm
  rw [← hv'] at hv ⊢
  clear hv'
  simp only [db_names, db_names']
  refine View.canon_append_of_piecesOf (Val := Elt Ideal) (s := S96x10240) (e := .f32)
    (fun y => k0_pay3 (F := Ideal) y + ∑ s : Fin 512, V (ix2 (y 0) s) * iblk m c 2 t (ix2 s (y 1)) : FVec Ideal S96x10240 .f32)
    [_] [_, _, _, _, _, _, _, _, _, _, _, _, _, _, _, _, _, _, _, _]
    ⟨?_, ?_, ?_, ?_, ?_, ?_, ?_, ?_, ?_, ?_, ?_, ?_, ?_, ?_, ?_, ?_, ?_, ?_, ?_, ?_, trivial⟩ y
    (View.cover_of_tiledL (s := S96x10240) _ ![96, 512] (by sl_kernel_rfl) y)
  all_goals exact dbTile _ _ hv _ _ _ _

theorem db_step (c : Dev nD) (hA : (args m c).Finite) (t : Fin cfg0.N) (h : ¬ t.val % 16 = 0) (y : S96x10240.Idx) :
    (outsAt0 m c t.val t.isLt).2.2.1 y
      = (outsAt0 m c (t.val - 1) (Nat.lt_of_le_of_lt (Nat.sub_le _ _) t.isLt)).2.2.1 y + dbTerm m c t y := by
  have hv := gradX_real m c hA t
  rw [outsAt0_B m c t h]
  frame_out
  simp only [pieces_xa]
  generalize hw : gradT _ (k0_pay7 (F := Ideal) _ _ _) = V
  have hv' : V = gradT (iblk m c 3 t) (xaPt m c t) := hw.symm
  clear hw
  unfold dbTerm
  rw [← hv'] at hv ⊢
  clear hv'
  simp only [db_names, db_names']
  generalize (outsAt0 m c (t.val - 1) (Nat.lt_of_le_of_lt (Nat.sub_le _ _) t.isLt)).2.2.1 = w
  refine View.canon_append_of_piecesOf (Val := Elt Ideal) (s := S96x10240) (e := .f32)
    (fun y => w y + ∑ s : Fin 512, V (ix2 (y 0) s) * iblk m c 2 t (ix2 s (y 1)) : FVec Ideal S96x10240 .f32)
    [] [_, _, _, _, _, _, _, _, _, _, _, _, _, _, _, _, _, _, _, _]
    ⟨?_, ?_, ?_, ?_, ?_, ?_, ?_, ?_, ?_, ?_, ?_, ?_, ?_, ?_, ?_, ?_, ?_, ?_, ?_, ?_, trivial⟩ y
    (View.cover_of_tiledL (s := S96x10240) _ ![96, 512] (by sl_kernel_rfl) y)
  all_goals exact dbTile _ _ hv _ _ _ _

end Cert.KernelIdeal.Value
-- ==== Proof.KernelArrays.lean ====
/-
  The arrays the kernel's region leaves, as elements of the arguments' results, at the ideal instance.
-/
module

public import proofs.«01_k».proof.Proof.KernelSteps

@[expose] public section

set_option maxRecDepth 16384

noncomputable section

namespace Cert.KernelIdeal.Value

open Idealize.ShloMosaic Idealize.ShloMosaic.TcCoe Idealize.SL.Sem
open Cert.KernelIdeal Cert.KernelIdeal.Gen Cert.KernelIdeal.Facts Cert.Spec Cert.Reals

variable (m : (ℓ : Loc nD τ sig) → Buf (Elt Ideal) ℓ)

/-! ## Blocks written at every point -/

theorem dxG_apply (x2 : FVec Ideal S512x10240 .fp8e5m2) (x3 : FVec Ideal S1x1x512 .f32) (x4 : FVec Ideal S2560x10240 .fp8e4m3)
    (x5 : FVec Ideal S1x2560 .f32) (v : FVec Ideal S96x512 .f32) (a3 : FVec Ideal S288x2560 .bf16) (s : Fin 512) (n : Fin 2560) :
    dxG x2 x3 x4 x5 v a3 (ix2 s n) = (∑ k : Fin 10240, x2 (ix2 s k) * x4 (ix2 n k)) * (x3 (ix3 0 0 s) * x5 (ix2 0 n))
      + two * ∑ p : Fin 96, v (ix2 p s) * a3 (ix2 ⟨p.val, by omega⟩ n) := rfl

theorem dx_point (c : Dev nD) (hA : (args m c).Finite) (t : Fin cfg0.N) (s : Fin 512) (n : Fin 2560) :
    (outsAt0 m c t.val t.isLt).1 (ix2 s n) = (args m c).dx (tok t s) n := by
  obtain ⟨a3, ha, h⟩ := dx_tiles m c hA t (ix2 s n)
  rw [h, dxG_apply]
  have hp : ∀ p : Fin 96, a3 (ix2 ⟨p.val, by omega⟩ n) = (args m c).la n p := fun p => ha ⟨p.val, by omega⟩ p.isLt n
  simp only [read_dy, read_w, read_dys, read_ws, tPt_apply, hp]
  rfl

theorem arr_dx (c : Dev nD) (hA : (args m c).Finite) :
    (dats m 0 c).arrAt 8 cfg0.N = fun i => (args m c).dx (i 0) (i 1) := by
  refine (dats m 0 c).arrAt_eq_of_covers 8 _ (by decide +kernel) fun t hf y => ?_
  blk_simp
  rw [after0_8]
  idx_vars y
  have h0 : ((cfg0.win 8).blk t).view.emb (ix2 y0 y1) = ix2 (tok t y0) y1 := by
    blk_ext [(outIdx t).1]
    simp only [tok]; omega
  rw [dx_point m c hA]
  show _ = (fun i : S8192x2560.Idx => (args m c).dx (i 0) (i 1)) (((cfg0.win 8).blk t).view.emb (ix2 y0 y1))
  rw [h0]
  rfl

/-- The token of a batch and a position. -/
def token' (b : Fin 8) (p : Fin 1024) : Fin 8192 := ⟨1024 * b.val + p.val, by omega⟩

/-- An array of 96 rows per batch whose columns are the batch's positions. -/
def byBatch (f : Fin 8192 → Fin 96 → EReal) : FVec Ideal S8x96x1024 .f32 := fun i => f (token' (i 0) (i 2)) (i 1)

/-- The batch a point's tokens are in. -/
def batch (t : Fin cfg0.N) : Fin 8 := ⟨t.val / 2, by have h := lt_of_lt_of_eq t.isLt N_0; omega⟩

/-- The position in the batch of a point's token. -/
def posn (t : Fin cfg0.N) (s : Fin 512) : Fin 1024 := ⟨512 * (t.val % 2) + s.val, by omega⟩

theorem byBatch_apply (f : Fin 8192 → Fin 96 → EReal) (t : Fin cfg0.N) (r : Fin 96) (s : Fin 512) :
    byBatch f (ix3 (batch t) r (posn t s)) = f (tok t s) r := by
  show f (token' (batch t) (posn t s)) r = _
  congr 1
  exact Fin.ext (by simp only [token', batch, posn, tok]; omega)

theorem arr_t (c : Dev nD) : (dats m 0 c).arrAt 11 cfg0.N = byBatch (args m c).t := by
  refine (dats m 0 c).arrAt_eq_of_covers 11 _ (by decide +kernel) fun t hf y => ?_
  blk_simp
  rw [after0_11]
  idx_vars y
  have h0 : ((cfg0.win 11).blk t).view.emb (ix3 y0 y1 y2) = ix3 (batch t) y1 (posn t y2) := by
    blk_ext [(outIdx t).2.2.2.1]
    all_goals (simp only [batch, posn] <;> omega)
  rw [t_point]
  show _ = byBatch _ (((cfg0.win 11).blk t).view.emb (ix3 y0 y1 y2))
  rw [h0, byBatch_apply]

theorem arr_xa (c : Dev nD) : (dats m 0 c).arrAt 12 cfg0.N = byBatch (args m c).xa := by
  refine (dats m 0 c).arrAt_eq_of_covers 12 _ (by decide +kernel) fun t hf y => ?_
  blk_simp
  rw [after0_12]
  idx_vars y
  have h0 : ((cfg0.win 12).blk t).view.emb (ix3 y0 y1 y2) = ix3 (batch t) y1 (posn t y2) := by
    blk_ext [(outIdx t).2.2.2.2]
    all_goals (simp only [batch, posn] <;> omega)
  rw [xa_point]
  show _ = byBatch _ (((cfg0.win 12).blk t).view.emb (ix3 y0 y1 y2))
  rw [h0, byBatch_apply]

/-! ## The two sums over all points -/

/-- The sum over the points and each point's tokens is the sum over all tokens. -/
theorem sum_tokens (f : Fin 8192 → EReal) : ∑ t : Fin cfg0.N, ∑ s : Fin 512, f (tok t s) = ∑ T : Fin 8192, f T := by
  refine Fin.sum_mul_add_congr fun t s hl => ?_
  exact congrArg f (Fin.ext (by simp only [tok]; omega))

theorem da_sum (c : Dev nD) (hA : (args m c).Finite) (t : Fin cfg0.N) (ht : t.val + 1 = cfg0.N) (r : Fin 96) (n : Fin 2560) :
    (outsAt0 m c t.val t.isLt).2.1 (ix2 r n) = (args m c).da n r := by
  have h := Pipeline.eq_sum_fin_of_reset_step_apply_last (fun k hk => (outsAt0 m c k hk).2.1) 16 (k0_pay2 (F := Ideal))
    (daTerm m c) (da_reset m c hA) (da_step m c hA) (le_of_eq N_0) t ht (ix2 r n)
  have hz : k0_pay2 (F := Ideal) (ix2 r n) = 0 := by pointwise [k0_pay2]
  have hd : ∀ p, daTerm m c p (ix2 r n)
      = ∑ s : Fin 512, (fun T => (args m c).t T r * (args m c).xs T * two * (args m c).x T n) (tok p s) := fun p => by
    show (∑ s : Fin 512, gradT (iblk m c 1 p) (tPt m c p) (ix2 r s) * iblk m c 0 p (ix2 s n) : EReal) = _
    simp only [gradT_apply, tPt_apply, read_xs, read_x]
  rw [h, hz]
  simp only [hd]
  rw [zero_add]
  exact sum_tokens fun T => (args m c).t T r * (args m c).xs T * two * (args m c).x T n

theorem db_sum (c : Dev nD) (hA : (args m c).Finite) (t : Fin cfg0.N) (ht : t.val + 1 = cfg0.N) (r : Fin 96) (k : Fin 10240) :
    (outsAt0 m c t.val t.isLt).2.2.1 (ix2 r k) = (args m c).db r k := by
  have h := Pipeline.eq_sum_fin_of_reset_step_apply_last (fun k hk => (outsAt0 m c k hk).2.2.1) 16 (k0_pay3 (F := Ideal))
    (dbTerm m c) (db_reset m c hA) (db_step m c hA) (le_of_eq N_0) t ht (ix2 r k)
  have hz : k0_pay3 (F := Ideal) (ix2 r k) = 0 := by pointwise [k0_pay3]
  have hd : ∀ p, dbTerm m c p (ix2 r k)
      = ∑ s : Fin 512, (fun T => (args m c).xa T r * (args m c).dys T * two * (args m c).dy T k) (tok p s) := fun p => by
    show (∑ s : Fin 512, gradT (iblk m c 3 p) (xaPt m c p) (ix2 r s) * iblk m c 2 p (ix2 s k) : EReal) = _
    simp only [gradT_apply, xaPt_apply, read_dys, read_dy]
  rw [h, hz]
  simp only [hd]
  rw [zero_add]
  exact sum_tokens fun T => (args m c).xa T r * (args m c).dys T * two * (args m c).dy T k

theorem arr_da (c : Dev nD) (hA : (args m c).Finite) :
    (dats m 0 c).arrAt 9 cfg0.N = fun i => (args m c).da (i 1) (i 0) := by
  refine (dats m 0 c).arrAt_eq_of_after_last 9 t0_15 (by decide +kernel) _ fun j => ?_
  blk_simp
  rw [after0_9]
  idx_vars j
  rw [da_sum m c hA t0_15 (by decide +kernel)]

theorem arr_db (c : Dev nD) (hA : (args m c).Finite) :
    (dats m 0 c).arrAt 10 cfg0.N = fun i => (args m c).db (i 0) (i 1) := by
  refine (dats m 0 c).arrAt_eq_of_after_last 10 t0_15 (by decide +kernel) _ fun j => ?_
  blk_simp
  rw [after0_10]
  idx_vars j
  rw [db_sum m c hA t0_15 (by decide +kernel)]

end Cert.KernelIdeal.Value

end
-- ==== Proof.Results.lean ====
/-
  The five results as arrays, out of the arguments' elements.
-/
module

public import proofs.«01_k».proof.Proof.Spec

@[expose] public section

noncomputable section

namespace Cert.Spec

open Idealize.ShloMosaic

variable (A : Args)

def Args.outDx : FVec Ideal ⟨3, ![8, 1024, 2560]⟩ .bf16 := fun i => A.dx (token (i 0) (i 1)) (i 2)
def Args.outDa : FVec Ideal ⟨2, ![2560, 96]⟩ .f32 := fun i => A.da (i 0) (i 1)
def Args.outDb : FVec Ideal ⟨2, ![96, 10240]⟩ .f32 := fun i => A.db (i 0) (i 1)
def Args.outT : FVec Ideal ⟨3, ![8, 1024, 96]⟩ .f32 := fun i => A.t (token (i 0) (i 1)) (i 2)
def Args.outXa : FVec Ideal ⟨3, ![8, 1024, 96]⟩ .f32 := fun i => A.xa (token (i 0) (i 1)) (i 2)

/-- Tokens laid in one row, by batch. -/
theorem rows_dx (h) : shapeCast (α := EReal) ⟨3, ![8, 1024, 2560]⟩
    (fun i : (⟨2, ![8192, 2560]⟩ : Shape).Idx => A.dx (i 0) (i 1)) h = A.outDx := by
  funext i
  idx_vars i
  pointwise
  rfl

theorem rows_r (f : Fin 8192 → Fin 96 → EReal) (h) : shapeCast (α := EReal) ⟨3, ![8, 1024, 96]⟩
    (fun i : (⟨2, ![8192, 96]⟩ : Shape).Idx => f (i 0) (i 1)) h
      = fun i : (⟨3, ![8, 1024, 96]⟩ : Shape).Idx => f (token (i 0) (i 1)) (i 2) := by
  funext i
  idx_vars i
  pointwise

end Cert.Spec

end
-- ==== Proof.KernelRun.lean ====
/-
  The kernel's run at the ideal instance: every execution ends with the five results in the arrays it returns.
-/
module

public import proofs.«01_k».proof.Proof.KernelArrays
public import proofs.«01_k».proof.Proof.Results

@[expose] public section

set_option maxRecDepth 16384

noncomputable section

namespace Cert.KernelIdeal.Value

open Idealize.ShloMosaic Idealize.ShloMosaic.TcCoe Idealize.SL.Sem
open Cert.KernelIdeal Cert.KernelIdeal.Gen Cert.KernelIdeal.Facts Cert.Spec Cert.Reals

variable (m : (ℓ : Loc nD τ sig) → Buf (Elt Ideal) ℓ)

/-- The arrays of the windows are different. -/
theorem arrRef_inj : Function.Injective (Pipeline.arrRef (cfgs 0).spec) := by decide

/-- The batches' columns turned into rows. -/
theorem rows_byBatch (f : Fin 8192 → Fin 96 → EReal) (h) :
    transpose S8x1024x96 [0, 2, 1] (α := EReal) (byBatch f) h = fun i : S8x1024x96.Idx => f (token (i 0) (i 1)) (i 2) := by
  funext i
  idx_vars i
  pointwise
  show f (token' i0 i1) i2 = f (token i0 i1) i2
  exact congrArg (fun T => f T i2) (Fin.ext (by simp only [token', token]; omega))

theorem tail_dx (c : Dev nD) (hA : (args m c).Finite) :
    Pipeline.afterTail₀ cfgs (dats m) 0 (V0 m) [hostOps1] c main_v9 = (args m c).outDx := by
  have e : Pipeline.withArrays (cfgs 0).spec c (V0 m c) (fun w => (dats m 0 c).arrAt w (cfgs 0).N) (Proc.devRef .tc main_v8_0)
      = (dats m 0 c).arrAt 8 cfg0.N := Pipeline.withArrays_arr _ arrRef_inj c _ _ 8
  unfold Pipeline.afterTail₀
  show StableHlo.after hostOps1 _ _ = _
  unfold hostOps1
  after_results
  rw [e, arr_dx m c hA]
  exact rows_dx _ _

theorem tail_da (c : Dev nD) (hA : (args m c).Finite) :
    Pipeline.afterTail₀ cfgs (dats m) 0 (V0 m) [hostOps1] c main_v10 = (args m c).outDa := by
  have e : Pipeline.withArrays (cfgs 0).spec c (V0 m c) (fun w => (dats m 0 c).arrAt w (cfgs 0).N) (Proc.devRef .tc main_v8_1)
      = (dats m 0 c).arrAt 9 cfg0.N := Pipeline.withArrays_arr _ arrRef_inj c _ _ 9
  unfold Pipeline.afterTail₀
  show StableHlo.after hostOps1 _ _ = _
  unfold hostOps1
  after_results
  rw [e, arr_da m c hA]
  funext i
  idx_vars i
  pointwise
  rfl

theorem tail_t (c : Dev nD) :
    Pipeline.afterTail₀ cfgs (dats m) 0 (V0 m) [hostOps1] c main_v11 = (args m c).outT := by
  have e : Pipeline.withArrays (cfgs 0).spec c (V0 m c) (fun w => (dats m 0 c).arrAt w (cfgs 0).N) (Proc.devRef .tc main_v8_3)
      = (dats m 0 c).arrAt 11 cfg0.N := Pipeline.withArrays_arr _ arrRef_inj c _ _ 11
  unfold Pipeline.afterTail₀
  show StableHlo.after hostOps1 _ _ = _
  unfold hostOps1
  after_results
  rw [e, arr_t m c]
  exact rows_byBatch _ _

theorem tail_xa (c : Dev nD) :
    Pipeline.afterTail₀ cfgs (dats m) 0 (V0 m) [hostOps1] c main_v12 = (args m c).outXa := by
  have e : Pipeline.withArrays (cfgs 0).spec c (V0 m c) (fun w => (dats m 0 c).arrAt w (cfgs 0).N) (Proc.devRef .tc main_v8_4)
      = (dats m 0 c).arrAt 12 cfg0.N := Pipeline.withArrays_arr _ arrRef_inj c _ _ 12
  unfold Pipeline.afterTail₀
  show StableHlo.after hostOps1 _ _ = _
  unfold hostOps1
  after_results
  rw [e, arr_xa m c]
  exact rows_byBatch _ _

/-- Every execution ends with the results, the arguments unchanged. -/
theorem run (ρ : Dev nD → PrngReg) (hA : ∀ c, (args m c).Finite) :
    θ_run (defs (F := Ideal)) (onTc (τ := τ) (main (F := Ideal))) ⟨m, fun _ => 0, ρ⟩ (fun r => ∀ c : Dev nD,
      r.2.mem ((c.tc : Thread nD τ).loc main_v9) = (args m c).outDx
      ∧ r.2.mem ((c.tc : Thread nD τ).loc main_v10) = (args m c).outDa
      ∧ r.2.mem ((c.tc : Thread nD τ).loc main_v8_2) = (args m c).outDb
      ∧ r.2.mem ((c.tc : Thread nD τ).loc main_v11) = (args m c).outT
      ∧ r.2.mem ((c.tc : Thread nD τ).loc main_v12) = (args m c).outXa
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h.1 c).2 main_v9 (Pipeline.mem_restRefs_of _ (by decide) (by decide))).trans (tail_dx m c (hA c)),
      ((h.1 c).2 main_v10 (Pipeline.mem_restRefs_of _ (by decide) (by decide))).trans (tail_da m c (hA c)),
      ((h.1 c).1 10).trans (arr_db m c (hA c)),
      ((h.1 c).2 main_v11 (Pipeline.mem_restRefs_of _ (by decide) (by decide))).trans (tail_t m c),
      ((h.1 c).2 main_v12 (Pipeline.mem_restRefs_of _ (by decide) (by decide))).trans (tail_xa m c),
      h.2 c⟩)
    (θ_run_and (run_main m ρ) (unchanged m ρ))

end Cert.KernelIdeal.Value

end
-- ==== Proof.Reference.lean ====
/-
  The reference's results over the extended reals: the arrays its one region leaves, and the reshapes after it.
-/
module

public import proofs.«01_k».proof.Proof.Spec
public import proofs.«01_k».proof.Proof.Gen.ReferenceIdeal.Frame
public import Idealize.ShloMosaic.Lib.Pointwise
public import Idealize.ShloMosaic.Lib.Pipeline.ValueKit

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.ReferenceIdeal.Facts Cert.Spec

variable (m : (ℓ : Loc nD τ sig) → Buf (Elt Ideal) ℓ)

/-- The arguments' elements. -/
def args (c : Dev nD) : Args :=
  Args.of (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))

theorem idx (t : Fin cfg0.N) : win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] := by
  revert t; decide +kernel

/-! ## What the region reads -/

theorem V_x (c : Dev nD) : V m c main_v2 = shapeCast S8192x2560 (bitcastToFloat (F := Ideal) .fp8e4m3 (m ((c : Thread nD τ).loc main_arg0))) shapeCasts_S8x1024x2560_S8192x2560 := by
  show StableHlo.after hostOps0 (fun b => m (c, b)) (Proc.devRef .tc main_v2) = _
  unfold hostOps0
  after_results
  rfl

theorem V_xs (c : Dev nD) : V m c main_v3 = shapeCast S8192x1 (α := EReal) (m ((c : Thread nD τ).loc main_arg1)) shapeCasts_S8x1024_S8192x1 := by
  show StableHlo.after hostOps0 (fun b => m (c, b)) (Proc.devRef .tc main_v3) = _
  unfold hostOps0
  after_results
  rfl

theorem V_dy (c : Dev nD) : V m c main_v4 = shapeCast S8192x10240 (bitcastToFloat (F := Ideal) .fp8e5m2 (m ((c : Thread nD τ).loc main_arg2))) shapeCasts_S8x1024x10240_S8192x10240 := by
  show StableHlo.after hostOps0 (fun b => m (c, b)) (Proc.devRef .tc main_v4) = _
  unfold hostOps0
  after_results
  rfl

theorem V_dys (c : Dev nD) : V m c main_v5 = shapeCast S8192x1 (α := EReal) (m ((c : Thread nD τ).loc main_arg3)) shapeCasts_S8x1024_S8192x1 := by
  show StableHlo.after hostOps0 (fun b => m (c, b)) (Proc.devRef .tc main_v5) = _
  unfold hostOps0
  after_results
  rfl

theorem V_ws (c : Dev nD) : V m c main_v6 = shapeCast S1x2560 (α := EReal) (m ((c : Thread nD τ).loc main_arg5)) shapeCasts_S2560_S1x2560 := by
  show StableHlo.after hostOps0 (fun b => m (c, b)) (Proc.devRef .tc main_v6) = _
  unfold hostOps0
  after_results
  rfl

theorem read_x (c : Dev nD) (t : Fin cfg0.N) (T : Fin 8192) (k : Fin 2560) :
    iblk m c 0 t (ix2 T k) = (args m c).x T k := by
  have h0 : ((cfg0.win 0).blk t).view.emb (ix2 T k) = ix2 T k := by
    blk_ext [(idx t).1]
  show V m c main_v2 (((cfg0.win 0).blk t).view.emb (ix2 T k)) = _
  rw [h0, V_x]; exact x_at _ _ T k

theorem read_xs (c : Dev nD) (t : Fin cfg0.N) (T : Fin 8192) (u : Fin 1) :
    iblk m c 1 t (ix2 T u) = (args m c).xs T := by
  have h0 : ((cfg0.win 1).blk t).view.emb (ix2 T u) = ix2 T u := by
    blk_ext [(idx t).2.1]
  show V m c main_v3 (((cfg0.win 1).blk t).view.emb (ix2 T u)) = _
  rw [h0, V_xs]; pointwise; rfl

theorem read_dy (c : Dev nD) (t : Fin cfg0.N) (T : Fin 8192) (k : Fin 10240) :
    iblk m c 2 t (ix2 T k) = (args m c).dy T k := by
  have h0 : ((cfg0.win 2).blk t).view.emb (ix2 T k) = ix2 T k := by
    blk_ext [(idx t).2.2.1]
  show V m c main_v4 (((cfg0.win 2).blk t).view.emb (ix2 T k)) = _
  rw [h0, V_dy]; exact dy_at _ _ T k

theorem read_dys (c : Dev nD) (t : Fin cfg0.N) (T : Fin 8192) (u : Fin 1) :
    iblk m c 3 t (ix2 T u) = (args m c).dys T := by
  have h0 : ((cfg0.win 3).blk t).view.emb (ix2 T u) = ix2 T u := by
    blk_ext [(idx t).2.2.2.1]
  show V m c main_v5 (((cfg0.win 3).blk t).view.emb (ix2 T u)) = _
  rw [h0, V_dys]; pointwise; rfl

theorem read_w (c : Dev nD) (t : Fin cfg0.N) (n : Fin 2560) (k : Fin 10240) :
    iblk m c 4 t (ix2 n k) = (args m c).w n k := by
  have h0 : ((cfg0.win 4).blk t).view.emb (ix2 n k) = ix2 n k := by
    blk_ext [(idx t).2.2.2.2.1]
  show V m c main_arg4 (((cfg0.win 4).blk t).view.emb (ix2 n k)) = _
  rw [h0, V_main_arg4]; rfl

theorem read_ws (c : Dev nD) (t : Fin cfg0.N) (u : Fin 1) (n : Fin 2560) :
    iblk m c 5 t (ix2 u n) = (args m c).ws n := by
  have h0 : ((cfg0.win 5).blk t).view.emb (ix2 u n) = ix2 u n := by
    blk_ext [(idx t).2.2.2.2.2.1]
  show V m c main_v6 (((cfg0.win 5).blk t).view.emb (ix2 u n)) = _
  rw [h0, V_ws]; pointwise; rfl

theorem read_la (c : Dev nD) (t : Fin cfg0.N) (n : Fin 2560) (r : Fin 96) :
    iblk m c 6 t (ix2 n r) = (args m c).la n r := by
  have h0 : ((cfg0.win 6).blk t).view.emb (ix2 n r) = ix2 n r := by
    blk_ext [(idx t).2.2.2.2.2.2.1]
  show V m c main_arg6 (((cfg0.win 6).blk t).view.emb (ix2 n r)) = _
  rw [h0, V_main_arg6]; rfl

theorem read_lb (c : Dev nD) (t : Fin cfg0.N) (r : Fin 96) (k : Fin 10240) :
    iblk m c 7 t (ix2 r k) = (args m c).lb r k := by
  have h0 : ((cfg0.win 7).blk t).view.emb (ix2 r k) = ix2 r k := by
    blk_ext [(idx t).2.2.2.2.2.2.2]
  show V m c main_arg7 (((cfg0.win 7).blk t).view.emb (ix2 r k)) = _
  rw [h0, V_main_arg7]; rfl

/-! ## What the region leaves -/

theorem t_at (c : Dev nD) (t : Fin cfg0.N) (T : Fin 8192) (r : Fin 96) :
    k0_pay7 (iblk m c 2 t) (iblk m c 3 t) (iblk m c 7 t) (ix2 T r) = (args m c).t T r := by
  pointwise [k0_pay7, k0_pay4, k0_pay6]
  simp only [read_dy, read_dys, read_lb]
  unfold Args.t
  congr 1
  exact Finset.sum_congr rfl fun k _ => mul_comm _ _

theorem xa_at (c : Dev nD) (t : Fin cfg0.N) (T : Fin 8192) (r : Fin 96) :
    k0_pay8 (iblk m c 0 t) (iblk m c 1 t) (iblk m c 6 t) (ix2 T r) = (args m c).xa T r := by
  pointwise [k0_pay8, k0_pay3, k0_pay5]
  simp only [read_x, read_xs, read_la]
  unfold Args.xa
  congr 1
  exact Finset.sum_congr rfl fun k _ => mul_comm _ _

theorem arr_t (c : Dev nD) : (dats m 0 c).arrAt 11 cfg0.N = fun i => (args m c).t (i 0) (i 1) := by
  refine (dats m 0 c).arrAt_eq_of_after_last 11 t0_0 (by decide +kernel) _ fun j => ?_
  blk_simp
  rw [after0_11]
  frame_out
  idx_vars j
  exact t_at m c t0_0 j0 j1

theorem arr_xa (c : Dev nD) : (dats m 0 c).arrAt 12 cfg0.N = fun i => (args m c).xa (i 0) (i 1) := by
  refine (dats m 0 c).arrAt_eq_of_after_last 12 t0_0 (by decide +kernel) _ fun j => ?_
  blk_simp
  rw [after0_12]
  unfold_out out0_12
  frame_out
  idx_vars j
  exact xa_at m c t0_0 j0 j1

theorem arr_dx (c : Dev nD) : (dats m 0 c).arrAt 8 cfg0.N = fun i => (args m c).dx (i 0) (i 1) := by
  refine (dats m 0 c).arrAt_eq_of_after_last 8 t0_0 (by decide +kernel) _ fun j => ?_
  blk_simp
  rw [after0_8]
  frame_out
  idx_vars j
  have ht := t_at m c t0_0 j0
  unfold k0_pay9
  generalize k0_pay7 (iblk m c 2 t0_0) (iblk m c 3 t0_0) (iblk m c 7 t0_0) = tt at ht ⊢
  pointwise [k0_pay4, k0_pay6]
  simp only [ht, read_dy, read_dys, read_w, read_ws, read_la]
  rfl

theorem arr_da (c : Dev nD) (hA : (args m c).Finite) :
    (dats m 0 c).arrAt 9 cfg0.N = fun i => (args m c).da (i 0) (i 1) := by
  refine (dats m 0 c).arrAt_eq_of_after_last 9 t0_0 (by decide +kernel) _ fun j => ?_
  blk_simp
  rw [after0_9]
  frame_out
  idx_vars j
  have ht := fun T => t_at m c t0_0 T j1
  unfold k0_pay11
  generalize k0_pay7 (iblk m c 2 t0_0) (iblk m c 3 t0_0) (iblk m c 7 t0_0) = tt at ht ⊢
  pointwise [k0_pay1, k0_pay10, k0_pay3, k0_pay5]
  simp only [ht, read_x, read_xs]
  exact (hA.da_eq j0 j1).symm

theorem arr_db (c : Dev nD) (hA : (args m c).Finite) :
    (dats m 0 c).arrAt 10 cfg0.N = fun i => (args m c).db (i 0) (i 1) := by
  refine (dats m 0 c).arrAt_eq_of_after_last 10 t0_0 (by decide +kernel) _ fun j => ?_
  blk_simp
  rw [after0_10]
  unfold_out out0_10
  frame_out
  idx_vars j
  have ht := fun T => xa_at m c t0_0 T j0
  generalize k0_pay8 (iblk m c 0 t0_0) (iblk m c 1 t0_0) (iblk m c 6 t0_0) = tt at ht ⊢
  pointwise [k0_pay2, k0_pay4, k0_pay6]
  simp only [ht, read_dy, read_dys]
  exact (hA.db_eq j0 j1).symm

end Cert.ReferenceIdeal.Value

end
-- ==== Proof.ReferenceRun.lean ====
/-
  The reference's run at the ideal instance: every execution ends with the five results in the arrays it returns.
-/
module

public import proofs.«01_k».proof.Proof.Reference
public import proofs.«01_k».proof.Proof.Results

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.ReferenceIdeal.Facts Cert.Spec Cert.Reals

variable (m : (ℓ : Loc nD τ sig) → Buf (Elt Ideal) ℓ)

/-- The arrays of the windows are different. -/
theorem arrRef_inj : Function.Injective (Pipeline.arrRef (cfgs 0).spec) := by decide

theorem tail_dx (c : Dev nD) :
    Pipeline.afterTail₀ cfgs (dats m) 0 (V0 m) [hostOps1] c main_v8 = (args m c).outDx := by
  have e : Pipeline.withArrays (cfgs 0).spec c (V0 m c) (fun w => (dats m 0 c).arrAt w (cfgs 0).N) (Proc.devRef .tc main_v7_0)
      = (dats m 0 c).arrAt 8 cfg0.N := Pipeline.withArrays_arr _ arrRef_inj c _ _ 8
  unfold Pipeline.afterTail₀
  show StableHlo.after hostOps1 _ _ = _
  unfold hostOps1
  after_results
  rw [e, arr_dx m c]
  exact rows_dx _ _

theorem tail_t (c : Dev nD) :
    Pipeline.afterTail₀ cfgs (dats m) 0 (V0 m) [hostOps1] c main_v9 = (args m c).outT := by
  have e : Pipeline.withArrays (cfgs 0).spec c (V0 m c) (fun w => (dats m 0 c).arrAt w (cfgs 0).N) (Proc.devRef .tc main_v7_3)
      = (dats m 0 c).arrAt 11 cfg0.N := Pipeline.withArrays_arr _ arrRef_inj c _ _ 11
  unfold Pipeline.afterTail₀
  show StableHlo.after hostOps1 _ _ = _
  unfold hostOps1
  after_results
  rw [e, arr_t m c]
  exact rows_r _ _

theorem tail_xa (c : Dev nD) :
    Pipeline.afterTail₀ cfgs (dats m) 0 (V0 m) [hostOps1] c main_v10 = (args m c).outXa := by
  have e : Pipeline.withArrays (cfgs 0).spec c (V0 m c) (fun w => (dats m 0 c).arrAt w (cfgs 0).N) (Proc.devRef .tc main_v7_4)
      = (dats m 0 c).arrAt 12 cfg0.N := Pipeline.withArrays_arr _ arrRef_inj c _ _ 12
  unfold Pipeline.afterTail₀
  show StableHlo.after hostOps1 _ _ = _
  unfold hostOps1
  after_results
  rw [e, arr_xa m c]
  exact rows_r _ _

/-- Every execution ends with the results, the arguments unchanged. -/
theorem run (ρ : Dev nD → PrngReg) (hA : ∀ c, (args m c).Finite) :
    θ_run (defs (F := Ideal)) (onTc (τ := τ) (main (F := Ideal))) ⟨m, fun _ => 0, ρ⟩ (fun r => ∀ c : Dev nD,
      r.2.mem ((c.tc : Thread nD τ).loc main_v8) = (args m c).outDx
      ∧ r.2.mem ((c.tc : Thread nD τ).loc main_v7_1) = (args m c).outDa
      ∧ r.2.mem ((c.tc : Thread nD τ).loc main_v7_2) = (args m c).outDb
      ∧ r.2.mem ((c.tc : Thread nD τ).loc main_v9) = (args m c).outT
      ∧ r.2.mem ((c.tc : Thread nD τ).loc main_v10) = (args m c).outXa
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h.1 c).2 main_v8 (Pipeline.mem_restRefs_of _ (by decide) (by decide))).trans (tail_dx m c),
      ((h.1 c).1 9).trans (arr_da m c (hA c)),
      ((h.1 c).1 10).trans (arr_db m c (hA c)),
      ((h.1 c).2 main_v9 (Pipeline.mem_restRefs_of _ (by decide) (by decide))).trans (tail_t m c),
      ((h.1 c).2 main_v10 (Pipeline.mem_restRefs_of _ (by decide) (by decide))).trans (tail_xa m c),
      h.2 c⟩)
    (θ_run_and (run_main m ρ) (unchanged m ρ))

end Cert.ReferenceIdeal.Value

end
-- ==== Proof.Finite.lean ====
/-
  What the precondition says of the arguments: the elements of x, dy, their scales and LoRA's A and B are numbers.
-/
module

public import proofs.«01_k».proof.Proof.Spec
public import proofs.«01_k».proof.Proof.Gen.Pre_finite
public import Idealize.ShloMosaic.Lib.ReduceAll

@[expose] public section

set_option maxRecDepth 16384

noncomputable section

namespace Cert.Finite

open Idealize.ShloMosaic Cert.Pre_finite Cert.Spec Cert.Reals

/-- An e4m3 word whose exponent and fraction bits are not all ones is a number. -/
theorem e4m3_real (w : BitVec 8) (h : w.setWidth 32 &&& 127#32 ≠ 127#32) : IsReal (Ideal.ofBits .fp8e4m3 w) := by
  have hd : ∀ w : BitVec 8, w.setWidth 32 &&& 127#32 ≠ 127#32 →
      ¬((w.extractLsb' 3 4).toNat = 15 ∧ (w.extractLsb' 0 3).toNat = 7) := by decide +kernel
  show IsReal (Ideal.e4m3fn w)
  unfold Ideal.e4m3fn
  dsimp only
  rw [if_neg (hd w h)]
  split
  · exact isReal_coe _
  · exact isReal_coe _

/-- An e5m2 word whose exponent bits are not all ones is a number. -/
theorem e5m2_real (w : BitVec 8) (h : w.setWidth 32 &&& 124#32 ≠ 124#32) : IsReal (Ideal.ofBits .fp8e5m2 w) := by
  have hd : ∀ w : BitVec 8, w.setWidth 32 &&& 124#32 ≠ 124#32 → ¬(w.extractLsb' 2 5).toNat = 2 ^ 5 - 1 := by
    decide +kernel
  show IsReal (Ideal.ieee 5 2 w)
  unfold Ideal.ieee
  dsimp only
  rw [if_neg (hd w h)]
  split
  · exact isReal_coe _
  · exact isReal_coe _

/-- An extended real whose absolute value is below the infinity's pattern is a number. -/
theorem real_of_lt {x i : EReal} (hi : i = ⊤) (h : Ideal.cmp .olt (max x (-x)) i = 1#1) : IsReal x := by
  subst hi
  have h' : max x (-x) < ⊤ := by
    by_contra hn
    unfold Ideal.cmp at h
    simp [hn] at h
  refine isReal_of_ne ?_ ?_
  · rintro rfl; simp at h'
  · rintro rfl; simp at h'

theorem top_f32 : Ideal.ofBits .f32 0x7F800000#32 = ⊤ := by
  simp [Ideal.ofBits, Ideal.ieee]

theorem top_bf16 : Ideal.ofBits .bf16 0x7F80#16 = ⊤ := by
  simp [Ideal.ofBits, Ideal.ieee]

instance : Subsingleton S_.Idx := ⟨fun a b => funext fun d => d.elim0⟩

/-- The printed predicate, all ones, says that the six arguments are numbers. -/
theorem args_finite (a0 : IVec S8x1024x2560 8) (a1 : FVec Ideal S8x1024 .f32) (a2 : IVec S8x1024x10240 8)
    (a3 : FVec Ideal S8x1024 .f32) (a4 : FVec Ideal S2560x10240 .fp8e4m3) (a5 : FVec Ideal S2560 .f32)
    (a6 : FVec Ideal S2560x96 .bf16) (a7 : FVec Ideal S96x10240 .bf16)
    (h : fn (F := Ideal) a0 a1 a2 a3 a4 a5 a6 a7 = fun _ => 1#1) : (Args.of a0 a1 a2 a3 a4 a5 a6 a7).Finite := by
  have e := congrFun h (fun d => d.elim0)
  dsimp only [fn, fn_part1] at e
  obtain ⟨e, e7⟩ := IntOp.andi_eq_one.mp e
  obtain ⟨e, e6⟩ := IntOp.andi_eq_one.mp e
  obtain ⟨e, e3⟩ := IntOp.andi_eq_one.mp e
  obtain ⟨e, e1⟩ := IntOp.andi_eq_one.mp e
  obtain ⟨e0, e2⟩ := IntOp.andi_eq_one.mp e
  refine ⟨fun T k => ?_, fun T => ?_, fun T k => ?_, fun T => ?_, fun n r => ?_, fun r k => ?_⟩
  · exact e4m3_real _ (IntOp.cmpi_ne.mp (Host.reduce_andi_all _ _ _ _ _ e0 (ix3 (bat T) (pos T) k)))
  · exact real_of_lt top_f32 (Host.reduce_andi_all _ _ _ _ _ e1 (ix2 (bat T) (pos T)))
  · exact e5m2_real _ (IntOp.cmpi_ne.mp (Host.reduce_andi_all _ _ _ _ _ e2 (ix3 (bat T) (pos T) k)))
  · exact real_of_lt top_f32 (Host.reduce_andi_all _ _ _ _ _ e3 (ix2 (bat T) (pos T)))
  · exact real_of_lt top_bf16 (Host.reduce_andi_all _ _ _ _ _ e6 (ix2 n r))
  · exact real_of_lt top_bf16 (Host.reduce_andi_all _ _ _ _ _ e7 (ix2 r k))

end Cert.Finite

end
-- ==== Proof.lean ====
/-
  The five claims: the three programs end without fault, their arguments unchanged; the ideal program is the kernel over
  the extended reals; over them, and from finite arguments, kernel and reference end with the same five results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite
public import proofs.«01_k».proof.Proof.KernelRun
public import proofs.«01_k».proof.Proof.ReferenceRun
public import proofs.«01_k».proof.Proof.Finite
public import Idealize.ShloMosaic.Adequacy
public import Idealize.ShloMosaic.Init

@[expose] public section

noncomputable section

namespace Cert.Proof

open Idealize.ShloMosaic Idealize.SL.Sem Cert.Kernel

/-- Arguments that agree have the same elements. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Value.args m' c = Cert.KernelIdeal.Value.args m c := by
  unfold Cert.ReferenceIdeal.Value.args Cert.KernelIdeal.Value.args
  rw [h0, h1, h2, h3, h4, h5, h6, h7]

/-- Over the extended reals, from finite arguments, the kernel and the reference end with the same five results. -/
theorem algebraic : Cert.algebraic_KernelIdeal_ReferenceIdeal_pre_finite := by
  intro m ρ m' ρ' hpre hag
  have hA : ∀ c, (Cert.KernelIdeal.Value.args m c).Finite := fun c => Cert.Finite.args_finite _ _ _ _ _ _ _ _ (hpre c)
  have he : ∀ c, Cert.ReferenceIdeal.Value.args m' c = Cert.KernelIdeal.Value.args m c := fun c => by
    obtain ⟨h0, h1, h2, h3, h4, h5, h6, h7⟩ := hag c
    exact args_eq m m' c h0 h1 h2 h3 h4 h5 h6 h7
  have hR := Cert.ReferenceIdeal.Value.run m' ρ' fun c => by rw [he c]; exact hA c
  simp only [he] at hR
  exact ⟨fun c => (Cert.KernelIdeal.Value.args m c).outDx, fun c => (Cert.KernelIdeal.Value.args m c).outDa,
    fun c => (Cert.KernelIdeal.Value.args m c).outDb, fun c => (Cert.KernelIdeal.Value.args m c).outT,
    fun c => (Cert.KernelIdeal.Value.args m c).outXa, Cert.KernelIdeal.Value.run m ρ hA, hR⟩

/-- All claims. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ,
    fun m ρ _ => Cert.KernelIdeal.Gen.frame m ρ, fun m ρ _ => Cert.ReferenceIdeal.Gen.frame m ρ,
    fun m ρ _ => Cert.ReferenceIdeal.Gen.frame m ρ, trivial, algebraic⟩

end Cert.Proof

end
